-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x3072x5120 : Shape := ⟨3, ![8, 3072, 5120]⟩
abbrev S5120x6912 : Shape := ⟨2, ![5120, 6912]⟩
abbrev S6912 : Shape := ⟨1, ![6912]⟩
abbrev S24576x5120 : Shape := ⟨2, ![24576, 5120]⟩
abbrev S1x6912 : Shape := ⟨2, ![1, 6912]⟩
abbrev S24576x1 : Shape := ⟨2, ![24576, 1]⟩
abbrev S24576x3456 : Shape := ⟨2, ![24576, 3456]⟩
abbrev S256x5120 : Shape := ⟨2, ![256, 5120]⟩
abbrev S256x1 : Shape := ⟨2, ![256, 1]⟩
abbrev S256x3456 : Shape := ⟨2, ![256, 3456]⟩
abbrev S256 : Shape := ⟨1, ![256]⟩
abbrev S1x256 : Shape := ⟨2, ![1, 256]⟩
abbrev S256x256 : Shape := ⟨2, ![256, 256]⟩
abbrev S5120x128 : Shape := ⟨2, ![5120, 128]⟩
abbrev S5120x256 : Shape := ⟨2, ![5120, 256]⟩
abbrev S256x128 : Shape := ⟨2, ![256, 128]⟩
abbrev S1x128 : Shape := ⟨2, ![1, 128]⟩

abbrev nBuf : Space → Nat
  | .hbm => 9
  | .vmem => 13
  | .smem => 0
  | _ => 0

abbrev bufTy : (tb : Table) → Fin (tcTables nBuf tb) → BufTy
  | .hbm, ⟨0, _⟩ => ⟨S8x3072x5120, .bf16⟩
  | .hbm, ⟨1, _⟩ => ⟨S5120x6912, .fp8e4m3⟩
  | .hbm, ⟨2, _⟩ => ⟨S6912, .f32⟩
  | .hbm, ⟨3, _⟩ => ⟨S24576x5120, .bf16⟩
  | .hbm, ⟨4, _⟩ => ⟨S1x6912, .f32⟩
  | .hbm, ⟨5, _⟩ => ⟨S24576x1, .f32⟩
  | .hbm, ⟨6, _⟩ => ⟨S24576x3456, .fp8e4m3⟩
  | .hbm, ⟨7, _⟩ => ⟨S24576x5120, .fp8e4m3⟩
  | .hbm, ⟨8, _⟩ => ⟨S24576x1, .f32⟩
  | .local _ .vmem, ⟨0, _⟩ => ⟨S256x5120, .bf16⟩
  | .local _ .vmem, ⟨1, _⟩ => ⟨S256x5120, .bf16⟩
  | .local _ .vmem, ⟨2, _⟩ => ⟨S5120x6912, .fp8e4m3⟩
  | .local _ .vmem, ⟨3, _⟩ => ⟨S1x6912, .f32⟩
  | .local _ .vmem, ⟨4, _⟩ => ⟨S256x1, .f32⟩
  | .local _ .vmem, ⟨5, _⟩ => ⟨S256x1, .f32⟩
  | .local _ .vmem, ⟨6, _⟩ => ⟨S256x3456, .fp8e4m3⟩
  | .local _ .vmem, ⟨7, _⟩ => ⟨S256x3456, .fp8e4m3⟩
  | .local _ .vmem, ⟨8, _⟩ => ⟨S256x5120, .fp8e4m3⟩
  | .local _ .vmem, ⟨9, _⟩ => ⟨S256x5120, .fp8e4m3⟩
  | .local _ .vmem, ⟨10, _⟩ => ⟨S256x1, .f32⟩
  | .local _ .vmem, ⟨11, _⟩ => ⟨S256x1, .f32⟩
  | .local _ .vmem, ⟨12, _⟩ => ⟨S256x3456, .f32⟩
  | _, _ => ⟨S8x3072x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5120x6912 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6912 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3456 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x5120 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x3072x5120 : Shape := ⟨3, ![8, 3072, 5120]⟩
abbrev S5120x6912 : Shape := ⟨2, ![5120, 6912]⟩
abbrev S6912 : Shape := ⟨1, ![6912]⟩
abbrev S24576x5120 : Shape := ⟨2, ![24576, 5120]⟩
abbrev S1x6912 : Shape := ⟨2, ![1, 6912]⟩
abbrev S24576x1 : Shape := ⟨2, ![24576, 1]⟩
abbrev S24576x3456 : Shape := ⟨2, ![24576, 3456]⟩
abbrev S24576 : Shape := ⟨1, ![24576]⟩
abbrev S24576x6912 : Shape := ⟨2, ![24576, 6912]⟩

abbrev nBuf : Space → Nat
  | .hbm => 9
  | .vmem => 7
  | .smem => 0
  | _ => 0

abbrev bufTy : (tb : Table) → Fin (tcTables nBuf tb) → BufTy
  | .hbm, ⟨0, _⟩ => ⟨S8x3072x5120, .bf16⟩
  | .hbm, ⟨1, _⟩ => ⟨S5120x6912, .fp8e4m3⟩
  | .hbm, ⟨2, _⟩ => ⟨S6912, .f32⟩
  | .hbm, ⟨3, _⟩ => ⟨S24576x5120, .bf16⟩
  | .hbm, ⟨4, _⟩ => ⟨S1x6912, .f32⟩
  | .hbm, ⟨5, _⟩ => ⟨S24576x1, .f32⟩
  | .hbm, ⟨6, _⟩ => ⟨S24576x3456, .fp8e4m3⟩
  | .hbm, ⟨7, _⟩ => ⟨S24576x5120, .fp8e4m3⟩
  | .hbm, ⟨8, _⟩ => ⟨S24576x1, .f32⟩
  | .local _ .vmem, ⟨0, _⟩ => ⟨S24576x5120, .bf16⟩
  | .local _ .vmem, ⟨1, _⟩ => ⟨S5120x6912, .fp8e4m3⟩
  | .local _ .vmem, ⟨2, _⟩ => ⟨S1x6912, .f32⟩
  | .local _ .vmem, ⟨3, _⟩ => ⟨S24576x1, .f32⟩
  | .local _ .vmem, ⟨4, _⟩ => ⟨S24576x3456, .fp8e4m3⟩
  | .local _ .vmem, ⟨5, _⟩ => ⟨S24576x5120, .fp8e4m3⟩
  | .local _ .vmem, ⟨6, _⟩ => ⟨S24576x1, .f32⟩
  | _, _ => ⟨S8x3072x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S24576x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x6912 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x6912 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x3456 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x5120 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Scale.lean ====
/- The power-of-two scale of one row, as a function of the row's largest magnitude, in the two spellings that the two
   programs print: the kernel counts the powers of two that `t = a · f32(1/448)` reaches and builds `2 ^ e` from the
   count's bits, the reference takes `⌊log₂ t⌋ + 1` and raises two to it. The two agree at every `a`. -/
module

public import Idealize.ShloMosaic.Lib.Pointwise
public import Idealize.ShloMosaic.Lib.IdealHost

@[expose] public section

noncomputable section

namespace Cert.Proof

open Idealize.ShloMosaic

/-- The multiplier f32(1/448) that takes a row's largest magnitude to `t`. -/
def invMax : EReal := Ideal.ofBits .f32 0x3B124925#32

/-- The kernel's test of lane `x`: lane zero never counts, lane `x` counts when `t` reaches the power of two whose
    exponent field is `min x 253`. -/
def reaches (t : EReal) (x : Fin 256) : BitVec 1 :=
  IntOp.andi (IntOp.cmpi CmpIPredicate.sgt (BitVec.ofNat 32 x.val) 0#32)
    (BitVec.ofBool (decide
      (Ideal.ofBits FTy.f32 (IntOp.shli ArithUnit.vector (IntOp.minsi (BitVec.ofNat 32 x.val) 253#32) 23#32) ≤ t)))

/-- The kernel's exponent field of `t`: how many lanes count. -/
def field (t : EReal) : BitVec 32 :=
  Finset.univ.fold IntOp.addi (0#32) fun x : Fin 256 => Scalar.select (reaches t x) 1#32 0#32

/-- The kernel's exponent of a row whose largest magnitude is `a`. -/
def kernelExp (a : EReal) : BitVec 32 :=
  if a = 0 then 0#32
  else Scalar.select
    (IntOp.ori (IntOp.cmpi CmpIPredicate.eq (field (a * invMax)) 0#32)
      (IntOp.cmpi CmpIPredicate.eq (field (a * invMax)) 255#32))
    0#32 (IntOp.subi (field (a * invMax)) 126#32)

/-- The kernel's scale, `2 ^ e` built from bits. -/
def kernelScale (a : EReal) : EReal :=
  Ideal.ofBits .f32 (IntOp.shli ArithUnit.vector (IntOp.addi 127#32 (kernelExp a)) 23#32)

/-- The kernel's inverse scale, `2 ^ (-e)` built from bits. -/
def kernelInv (a : EReal) : EReal :=
  Ideal.ofBits .f32 (IntOp.shli ArithUnit.vector (IntOp.subi 127#32 (kernelExp a)) 23#32)

/-- The reference's exponent of a row whose largest magnitude is `a`. -/
def refExp (a : EReal) : EReal :=
  if a = 0 then 0
  else if Ideal.ofBits .f32 0x00800000#32 ≤ a * invMax ∧ a * invMax < Ideal.ofBits .f32 0x7E800000#32 then
    Ideal.liftRound Int.floor
      (Ideal.div (Ideal.log (a * invMax)) (Ideal.log (Ideal.ofBits .f32 0x40000000#32))) + Ideal.ofBits .f32 0x3F800000#32
  else 0

/-- The reference's scale. -/
def refScale (a : EReal) : EReal := Ideal.exp2 (refExp a)

/-- The reference's inverse scale. -/
def refInv (a : EReal) : EReal := Ideal.exp2 (0 - refExp a)

/-- The f32 whose exponent field is `k`, `1 ≤ k ≤ 254`, and whose other bits are zero is `2 ^ (k - 127)`. -/
theorem ofBits_power (k : ℕ) (h1 : 1 ≤ k) (h2 : k ≤ 254) :
    Ideal.ofBits .f32 (BitVec.ofNat 32 k <<< 23) = (((2 : ℝ) ^ ((k : ℤ) - 127) : ℝ) : EReal) := by
  obtain ⟨e1, e2, e3⟩ : ((BitVec.ofNat 32 k <<< 23).extractLsb' 31 1 == 1#1) = false
      ∧ ((BitVec.ofNat 32 k <<< 23).extractLsb' 23 8).toNat = k
      ∧ ((BitVec.ofNat 32 k <<< 23).extractLsb' 0 23).toNat = 0 := by
    have : ∀ k : Fin 255, ((BitVec.ofNat 32 k.val <<< 23).extractLsb' 31 1 == 1#1) = false
        ∧ ((BitVec.ofNat 32 k.val <<< 23).extractLsb' 23 8).toNat = k.val
        ∧ ((BitVec.ofNat 32 k.val <<< 23).extractLsb' 0 23).toNat = 0 := by decide +kernel
    exact this ⟨k, by omega⟩
  generalize BitVec.ofNat 32 k <<< 23 = w at e1 e2 e3 ⊢
  show Ideal.ieee 8 23 w = _
  unfold Ideal.ieee
  simp only [Nat.reduceAdd, e1, e2, e3]
  rw [if_neg (by omega), if_neg (by omega)]
  congr 1
  have : ((2 : ℝ) ^ ((k : ℤ) - (2 ^ (8 - 1) - 1) - (23 : ℕ))) = 2 ^ ((k : ℤ) - 127) / 2 ^ 23 := by
    rw [show ((k : ℤ) - (2 ^ (8 - 1) - 1) - (23 : ℕ)) = ((k : ℤ) - 127) - 23 by norm_num, zpow_sub₀ (by norm_num)]
    norm_num
  rw [this]
  norm_num
  ring

theorem shli_eq (w : BitVec 32) : IntOp.shli ArithUnit.vector w 23#32 = w <<< 23 := by
  unfold IntOp.shli
  rw [if_pos (by decide)]
  rfl

/-- Lane `x` counts exactly when it is not lane zero and `2 ^ (min x 253 - 127) ≤ t`. -/
theorem reaches_eq (t : EReal) (x : Fin 256) :
    reaches t x = 1#1 ↔ 1 ≤ x.val ∧ (((2 : ℝ) ^ (((min x.val 253 : ℕ) : ℤ) - 127) : ℝ) : EReal) ≤ t := by
  have hm : ∀ x : Fin 256, IntOp.minsi (BitVec.ofNat 32 x.val) 253#32 = BitVec.ofNat 32 (min x.val 253) := by decide
  have hs : ∀ x : Fin 256, IntOp.cmpi CmpIPredicate.sgt (BitVec.ofNat 32 x.val) 0#32 = BitVec.ofBool (decide (1 ≤ x.val)) := by
    decide
  have ha : ∀ a b : Bool, IntOp.andi (BitVec.ofBool a) (BitVec.ofBool b) = 1#1 ↔ (a = true ∧ b = true) := by decide
  unfold reaches
  rw [hm, hs, ha, shli_eq]
  by_cases h : 1 ≤ x.val
  · rw [ofBits_power _ (by omega) (by omega)]; simp
  · simp [h]

/-- The count as a number. -/
theorem field_eq (t : EReal) :
    field t = BitVec.ofNat 32 (Finset.univ.filter fun x : Fin 256 => reaches t x = 1#1).card := by
  have key : ∀ s : Finset (Fin 256), s.fold IntOp.addi (0#32) (fun x : Fin 256 => Scalar.select (reaches t x) 1#32 0#32)
      = BitVec.ofNat 32 (s.filter fun x : Fin 256 => reaches t x = 1#1).card := by
    intro s
    induction s using Finset.induction_on with
    | empty => simp
    | insert x s hx ih =>
      rw [Finset.fold_insert hx, ih, Finset.filter_insert]
      by_cases h : reaches t x = 1#1
      · rw [if_pos h, Finset.card_insert_of_notMem (by simp [hx]), Scalar.select, if_pos (show reaches t x = 1 from h), IntOp.addi]
        rw [← BitVec.ofNat_add_ofNat, BitVec.add_comm]
      · rw [if_neg h, Scalar.select, if_neg (show ¬reaches t x = 1 from h), IntOp.addi, BitVec.zero_add]
  exact key _

/-- Below the smallest normal number no lane counts. -/
theorem field_small (t : EReal) (h : t < (((2 : ℝ) ^ (-126 : ℤ) : ℝ) : EReal)) : field t = 0#32 := by
  rw [field_eq, Finset.filter_false_of_mem]
  · rfl
  · intro x _ hx
    obtain ⟨h1, h2⟩ := (reaches_eq t x).mp hx
    refine absurd (lt_of_le_of_lt h2 h) (not_lt.mpr ?_)
    rw [EReal.coe_le_coe_iff]
    exact zpow_le_zpow_right₀ (by norm_num) (by omega)

/-- From `2 ^ 126` on every lane but lane zero counts. -/
theorem field_big (t : EReal) (h : (((2 : ℝ) ^ (126 : ℤ) : ℝ) : EReal) ≤ t) : field t = 255#32 := by
  rw [field_eq]
  have : (Finset.univ.filter fun x : Fin 256 => reaches t x = 1#1) = Finset.univ.filter fun x : Fin 256 => 1 ≤ x.val := by
    refine Finset.filter_congr fun x _ => ?_
    rw [reaches_eq]
    refine ⟨fun h => h.1, fun h1 => ⟨h1, le_trans ?_ h⟩⟩
    rw [EReal.coe_le_coe_iff]
    exact zpow_le_zpow_right₀ (by norm_num) (by omega)
  rw [this]
  decide

/-- In between, with `2 ^ (n - 127) ≤ t < 2 ^ (n - 126)`, the count is `n`. -/
theorem field_mid (t : ℝ) (n : ℕ) (h1 : 1 ≤ n) (h2 : n ≤ 252) (hlo : (2 : ℝ) ^ ((n : ℤ) - 127) ≤ t)
    (hhi : t < (2 : ℝ) ^ ((n : ℤ) - 126)) : field (t : EReal) = BitVec.ofNat 32 n := by
  rw [field_eq]
  have : (Finset.univ.filter fun x : Fin 256 => reaches (t : EReal) x = 1#1)
      = Finset.univ.filter fun x : Fin 256 => 1 ≤ x.val ∧ x.val ≤ n := by
    refine Finset.filter_congr fun x _ => ?_
    rw [reaches_eq, EReal.coe_le_coe_iff]
    refine and_congr_right fun hx => ⟨fun h => ?_, fun h => le_trans (zpow_le_zpow_right₀ (by norm_num) (by omega)) hlo⟩
    have := (zpow_lt_zpow_iff_right₀ (by norm_num : (1 : ℝ) < 2)).mp (lt_of_le_of_lt h hhi)
    omega
  rw [this]
  congr 1
  have : (Finset.univ.filter fun x : Fin 256 => 1 ≤ x.val ∧ x.val ≤ n).card = (Finset.Icc 1 n).card := by
    refine Finset.card_bij (fun x _ => x.val) (fun x hx => by simpa using hx) (fun x _ y _ h => Fin.ext h) fun k hk => ?_
    rw [Finset.mem_Icc] at hk
    exact ⟨⟨k, by omega⟩, by simpa using hk, rfl⟩
  rw [this]; simp

theorem ofBits_two_f32 : Ideal.ofBits .f32 0x40000000#32 = ((2 : ℝ) : EReal) := by
  rw [show (0x40000000#32 : BitVec 32) = BitVec.ofNat 32 128 <<< 23 by decide, ofBits_power _ (by norm_num) (by norm_num)]
  norm_num

theorem ofBits_one : Ideal.ofBits .f32 0x3F800000#32 = 1 := by
  rw [show (0x3F800000#32 : BitVec 32) = BitVec.ofNat 32 127 <<< 23 by decide, ofBits_power _ (by norm_num) (by norm_num)]
  norm_num

theorem ofBits_minNormal : Ideal.ofBits .f32 0x00800000#32 = (((2 : ℝ) ^ (-126 : ℤ) : ℝ) : EReal) := by
  rw [show (0x00800000#32 : BitVec 32) = BitVec.ofNat 32 1 <<< 23 by decide, ofBits_power _ (by norm_num) (by norm_num)]
  norm_num

theorem ofBits_upper : Ideal.ofBits .f32 0x7E800000#32 = (((2 : ℝ) ^ (126 : ℤ) : ℝ) : EReal) := by
  rw [show (0x7E800000#32 : BitVec 32) = BitVec.ofNat 32 253 <<< 23 by decide, ofBits_power _ (by norm_num) (by norm_num)]
  norm_num

/-- WHAT THE TWO EXPONENTS ARE: one integer `e`, `-125 ≤ e ≤ 126` or zero, as a word in the kernel and as a number in the
    reference. -/
theorem exp_eq (a : EReal) :
    ∃ n : ℕ, 1 ≤ n ∧ n ≤ 252 ∧ kernelExp a = BitVec.ofNat 32 n - 126#32 ∧ refExp a = (((n : ℝ) - 126 : ℝ) : EReal) := by
  have zero : kernelExp a = 0#32 → refExp a = 0 →
      ∃ n : ℕ, 1 ≤ n ∧ n ≤ 252 ∧ kernelExp a = BitVec.ofNat 32 n - 126#32 ∧ refExp a = (((n : ℝ) - 126 : ℝ) : EReal) :=
    fun h1 h2 => ⟨126, by norm_num, by norm_num, by rw [h1]; rfl, by rw [h2]; norm_num⟩
  by_cases h0 : a = 0
  · exact zero (by rw [kernelExp, if_pos h0]) (by rw [refExp, if_pos h0])
  by_cases hlo : a * invMax < (((2 : ℝ) ^ (-126 : ℤ) : ℝ) : EReal)
  · refine zero ?_ ?_
    · rw [kernelExp, if_neg h0, field_small _ hlo]; rfl
    · rw [refExp, if_neg h0, if_neg]
      rw [ofBits_minNormal]
      exact fun h => absurd hlo (not_lt.mpr h.1)
  by_cases hhi : (((2 : ℝ) ^ (126 : ℤ) : ℝ) : EReal) ≤ a * invMax
  · refine zero ?_ ?_
    · rw [kernelExp, if_neg h0, field_big _ hhi]; rfl
    · rw [refExp, if_neg h0, if_neg]
      rw [ofBits_upper]
      exact fun h => absurd h.2 (not_lt.mpr hhi)
  rw [not_lt] at hlo
  rw [not_le] at hhi
  obtain ⟨t, ht⟩ : ∃ t : ℝ, a * invMax = (t : EReal) :=
    ⟨(a * invMax).toReal, (EReal.coe_toReal (ne_top_of_lt hhi) (ne_bot_of_gt (lt_of_lt_of_le (EReal.bot_lt_coe _) hlo))).symm⟩
  rw [ht, EReal.coe_le_coe_iff] at hlo
  rw [ht, EReal.coe_lt_coe_iff] at hhi
  have tpos : 0 < t := lt_of_lt_of_le (by positivity) hlo
  have l2 : 0 < Real.log 2 := Real.log_pos (by norm_num)
  -- the integer part of the logarithm
  have f1 : (2 : ℝ) ^ ⌊Real.log t / Real.log 2⌋ ≤ t := by
    rw [← Real.log_le_log_iff (by positivity) tpos, Real.log_zpow, ← le_div_iff₀ l2]
    exact Int.floor_le _
  have f2 : t < (2 : ℝ) ^ (⌊Real.log t / Real.log 2⌋ + 1) := by
    rw [← Real.log_lt_log_iff tpos (by positivity), Real.log_zpow, ← div_lt_iff₀ l2]
    push_cast
    exact Int.lt_floor_add_one _
  have g1 : -127 < ⌊Real.log t / Real.log 2⌋ := by
    have := (zpow_lt_zpow_iff_right₀ (by norm_num : (1 : ℝ) < 2)).mp (lt_of_le_of_lt hlo f2)
    omega
  have g2 : ⌊Real.log t / Real.log 2⌋ < 126 := (zpow_lt_zpow_iff_right₀ (by norm_num : (1 : ℝ) < 2)).mp (lt_of_le_of_lt f1 hhi)
  obtain ⟨n, hn⟩ : ∃ n : ℕ, (n : ℤ) = ⌊Real.log t / Real.log 2⌋ + 127 := ⟨(⌊Real.log t / Real.log 2⌋ + 127).toNat, by omega⟩
  have hf : ⌊Real.log t / Real.log 2⌋ = (n : ℤ) - 127 := by omega
  have hfield := field_mid t n (by omega) (by omega) (by rw [← hf]; exact f1)
    (by rw [show ((n : ℤ) - 126) = ⌊Real.log t / Real.log 2⌋ + 1 by omega]; exact f2)
  refine ⟨n, by omega, by omega, ?_, ?_⟩
  · rw [kernelExp, if_neg h0, ht, hfield]
    have : ∀ n : ℕ, 1 ≤ n → n ≤ 252 → Scalar.select
        (IntOp.ori (IntOp.cmpi CmpIPredicate.eq (BitVec.ofNat 32 n) 0#32)
          (IntOp.cmpi CmpIPredicate.eq (BitVec.ofNat 32 n) 255#32))
        0#32 (IntOp.subi (BitVec.ofNat 32 n) 126#32) = BitVec.ofNat 32 n - 126#32 := by
      intro n h1 h2
      interval_cases n <;> rfl
    exact this n (by omega) (by omega)
  · rw [refExp, if_neg h0, ht, if_pos, ofBits_two_f32, ofBits_one]
    · rw [Ideal.log_coe, Ideal.log_coe, if_neg (by linarith), if_neg (by norm_num), Ideal.div_coe l2.ne', ← EReal.coe_mul,
        Ideal.liftRound_coe, mul_one_div, hf]
      rw [show (1 : EReal) = ((1 : ℝ) : EReal) from rfl, ← EReal.coe_add]
      congr 1
      push_cast; ring
    · rw [ofBits_minNormal, ofBits_upper, EReal.coe_le_coe_iff, EReal.coe_lt_coe_iff]
      exact ⟨hlo, hhi⟩

/-- The two scales agree. -/
theorem scale_eq (a : EReal) : kernelScale a = refScale a := by
  obtain ⟨n, h1, h2, hk, hr⟩ := exp_eq a
  rw [kernelScale, refScale, hk, hr, shli_eq, Ideal.exp2_coe]
  have : IntOp.addi 127#32 (BitVec.ofNat 32 n - 126#32) = BitVec.ofNat 32 (n + 1) := by
    interval_cases n <;> rfl
  rw [this, ofBits_power _ (by omega) (by omega)]
  congr 1
  show _ = (2 : ℝ) ^ ((n : ℝ) - 126)
  rw [show ((n : ℝ) - 126) = ((((n + 1 : ℕ) : ℤ) - 127 : ℤ) : ℝ) by push_cast; ring, Real.rpow_intCast]

/-- The two inverse scales agree. -/
theorem inv_eq (a : EReal) : kernelInv a = refInv a := by
  obtain ⟨n, h1, h2, hk, hr⟩ := exp_eq a
  rw [kernelInv, refInv, hk, hr, shli_eq, show (0 : EReal) = ((0 : ℝ) : EReal) from rfl, ← EReal.coe_sub, Ideal.exp2_coe]
  have : IntOp.subi 127#32 (BitVec.ofNat 32 n - 126#32) = BitVec.ofNat 32 (253 - n) := by
    interval_cases n <;> rfl
  rw [this, ofBits_power _ (by omega) (by omega)]
  congr 1
  show _ = (2 : ℝ) ^ (0 - ((n : ℝ) - 126))
  rw [show (0 - ((n : ℝ) - 126)) = ((((253 - n : ℕ) : ℤ) - 127 : ℤ) : ℝ) by
    rw [Nat.cast_sub (by omega)]; push_cast; ring, Real.rpow_intCast]

end Cert.Proof

end
-- ==== Proof.Rows.lean ====
/- What the two programs compute, one row at a time, free of tiles and blocks: the row's largest magnitude, the codes of
   a quantised row, the gated activations of a row. Also the readings at an index of the operations both programs print
   over a whole matrix, at any extents. -/
module

public import proofs.«01_k».proof.Proof.Scale

@[expose] public section

noncomputable section

namespace Cert.Proof

open Idealize.ShloMosaic

/-- A row's largest magnitude, taken from −∞. -/
def rowMax {n : ℕ} (f : Fin n → EReal) : EReal :=
  Finset.univ.fold max (Ideal.ofBits .f32 0xFF800000#32) fun k => max (f k) (-(f k))

/-- One code: the value times the row's inverse scale, clipped to the format's largest magnitude. -/
def clip (v inv : EReal) : EReal :=
  min (Ideal.ofBits .f32 0x43E00000#32) (max (Ideal.ofBits .f32 0xC3E00000#32) (v * inv))

/-- The codes of a row. -/
def rowCodes {n : ℕ} (f : Fin n → EReal) (k : Fin n) : EReal := clip (f k) (refInv (rowMax f))

/-- The scale of a row. -/
def rowScale {n : ℕ} (f : Fin n → EReal) : EReal := refScale (rowMax f)

/-- One projected column of a row: the dot product of its codes with column `c` of the weights, times the row's scale,
    times the column's scale. -/
def proj (codes : Fin 5120 → EReal) (s : EReal) (w : Fin 5120 → Fin 6912 → EReal) (ws : Fin 6912 → EReal)
    (c : Fin 6912) : EReal :=
  (∑ k, codes k * w k c) * s * ws c

/-- One gated activation of a row: column `j` of the gate half through `silu`, times column `j` of the other half. -/
def act (codes : Fin 5120 → EReal) (s : EReal) (w : Fin 5120 → Fin 6912 → EReal) (ws : Fin 6912 → EReal)
    (j : Fin 3456) : EReal :=
  proj codes s w ws ⟨j.val, by omega⟩ * Ideal.logistic (proj codes s w ws ⟨j.val, by omega⟩)
    * proj codes s w ws ⟨3456 + j.val, by omega⟩

/-- Row `r` of a matrix of values. -/
def xRow {m n : ℕ} (x : (⟨2, ![m, n]⟩ : Shape).Idx → EReal) (r : Fin m) : Fin n → EReal := fun k => x (ix2 r k)

/-- The gated activations of row `r`: the row is quantised, projected on all columns of the weights, rescaled and gated. -/
def hRow {m : ℕ} (x : (⟨2, ![m, 5120]⟩ : Shape).Idx → EReal) (w : (⟨2, ![5120, 6912]⟩ : Shape).Idx → EReal)
    (ws : (⟨2, ![1, 6912]⟩ : Shape).Idx → EReal) (r : Fin m) : Fin 3456 → EReal :=
  act (rowCodes (xRow x r)) (rowScale (xRow x r)) (fun k c => w (ix2 k c)) (fun c => ws (ix2 0 c))

/-- The f32 pattern of −∞ is below everything. -/
theorem negInf : Ideal.ofBits .f32 0xFF800000#32 = ⊥ := by
  show Ideal.ieee 8 23 0xFF800000#32 = _
  unfold Ideal.ieee
  simp only [Nat.reduceAdd, show ((0xFF800000#32).extractLsb' 31 1 == 1#1) = true by decide,
      show ((0xFF800000#32).extractLsb' 23 8).toNat = 255 by decide,
      show ((0xFF800000#32).extractLsb' 0 23).toNat = 0 by decide]
  norm_num

/-- A printed row maximum of magnitudes, kept as a column, read at a row. -/
theorem rowMax_apply {m n : ℕ} (v : FVec Ideal ⟨2, ![m, n]⟩ .f32) (h : Shape.Reduces ⟨2, ![m, n]⟩ [1] ⟨1, ![m]⟩)
    (hφ : FKind.Formats .f32) (hacc : (0xFF800000#32 : BitVec FTy.f32.bits) = FKind.maximumf.neutral .f32 hφ)
    (hc : Shape.ShapeCasts ⟨1, ![m]⟩ ⟨2, ![m, 1]⟩) (i : (⟨2, ![m, 1]⟩ : Shape).Idx) :
    shapeCast ⟨2, ![m, 1]⟩ (multiReduction .maximumf [1] ⟨1, ![m]⟩ (absf v) 0xFF800000#32 h hφ hacc) hc i
      = rowMax fun k : Fin n => v (ix2 (i 0) k) := by
  have h1 : (i 1).val = 0 := by have := (i 1).isLt; simpa using this
  rw [shapeCast_apply _ hc i (ix1 (i 0)) (by
    rw [Shape.rowMajor_val_one, Shape.rowMajor_val_two, h1]; simp)]
  rw [Ideal.multiReduction_maximumf_single]
  refine congrArg (fun g => Finset.univ.fold max (Ideal.ofBits .f32 0xFF800000#32) g) (funext fun k => ?_)
  show FloatOps.absf (v (h.lift _ k)) = _
  have : h.lift (ix1 (i 0)) k = ix2 (i 0) k := by
    funext a
    match a with
    | ⟨0, _⟩ => rfl
    | ⟨1, _⟩ => rfl
  rw [this]
  rfl

end Cert.Proof

end
-- ==== Proof.RunMax.lean ====
/- A row's largest magnitude gathered tile by tile, from zero: after all tiles it is the maximum over the row. -/
module

public import proofs.«01_k».proof.Proof.Rows

@[expose] public section

noncomputable section

namespace Cert.Proof

/-- A magnitude is not negative. -/
theorem abs_nonneg' (x : EReal) : 0 ≤ max x (-x) := by
  rcases le_total 0 x with h | h
  · exact le_max_of_le_left h
  · exact le_max_of_le_right (EReal.neg_nonneg.mpr h)

/-- `m` is the largest of zero and the magnitudes of the row's first `n` entries, told by its upper bounds. -/
def IsMax {N : ℕ} (f : Fin N → EReal) (n : ℕ) (m : EReal) : Prop :=
  ∀ b, m ≤ b ↔ 0 ≤ b ∧ ∀ j : Fin N, j.val < n → max (f j) (-(f j)) ≤ b

theorem isMax_zero {N : ℕ} (f : Fin N → EReal) : IsMax f 0 0 := fun b =>
  ⟨fun h => ⟨h, fun _ hj => absurd hj (Nat.not_lt_zero _)⟩, fun h => h.1⟩

theorem rowMax_le {n : ℕ} (f : Fin n → EReal) (b : EReal) : rowMax f ≤ b ↔ ∀ j, max (f j) (-(f j)) ≤ b := by
  unfold rowMax
  rw [Finset.fold_max_le, negInf]
  exact ⟨fun h j => h.2 j (Finset.mem_univ j), fun h => ⟨bot_le, fun j _ => h j⟩⟩

/-- One tile of `w` columns more. -/
theorem IsMax.step {N w : ℕ} {f : Fin N → EReal} {n : ℕ} {m : EReal} (h : IsMax f n m) (hw : n + w ≤ N)
    (g : Fin w → EReal) (hg : ∀ l : Fin w, g l = f ⟨n + l.val, by omega⟩) : IsMax f (n + w) (max m (rowMax g)) := by
  intro b
  rw [max_le_iff, h b, rowMax_le]
  constructor
  · rintro ⟨⟨h0, h1⟩, h2⟩
    refine ⟨h0, fun j hj => ?_⟩
    by_cases hn : j.val < n
    · exact h1 j hn
    · have := h2 ⟨j.val - n, by omega⟩
      rw [hg] at this
      have e : (⟨n + (j.val - n), by omega⟩ : Fin N) = j := Fin.ext (by show n + (j.val - n) = j.val; omega)
      simpa only [e] using this
  · rintro ⟨h0, h1⟩
    refine ⟨⟨h0, fun j hj => h1 j (by omega)⟩, fun l => ?_⟩
    rw [hg]
    exact h1 _ (by show n + l.val < n + w; omega)

/-- All columns done, it is the row's largest magnitude. -/
theorem IsMax.eq_rowMax {N : ℕ} {f : Fin N → EReal} {m : EReal} (h : IsMax f N m) (hN : 0 < N) : m = rowMax f := by
  refine le_antisymm ((h _).2 ⟨?_, fun j _ => (rowMax_le f _).1 le_rfl j⟩)
    ((rowMax_le f m).2 fun j => ((h m).1 le_rfl).2 j j.isLt)
  exact (abs_nonneg' (f ⟨0, hN⟩)).trans ((rowMax_le f _).1 le_rfl ⟨0, hN⟩)

end Cert.Proof

end
-- ==== Proof.KernelRows.lean ====
/- What the kernel's payloads hold at an index, over one block of 256 rows: the row functions of `Rows`. The quantiser is
   printed twice (for the rows of `x` and for the rows of activations) and the column tile 27 times; each is read here once. -/
module

public import proofs.«01_k».proof.Proof.Rows
public import proofs.«01_k».proof.Proof.Gen.KernelIdeal.Skeleton

@[expose] public section

set_option maxRecDepth 65536

noncomputable section

namespace Cert.Proof.Kern

open Idealize.ShloMosaic
open Cert.KernelIdeal Cert.KernelIdeal.Gen

/-! ## The exponent -/

/-- The kernel's exponents as it prints them, from the column of largest magnitudes. -/
def expOf (a : FVec Ideal S256x1 .f32) : IVec S256x1 32 :=
  k0_pay117 (F := Ideal) a k0_pay114
    (broadcastTo S256x256 (mulf a (broadcast S256x1 (Scalar.ofBits .f32 0x3B124925#32))) broadcasts_S256x1_S256x256) k0_pay116

theorem expOf_apply (a : FVec Ideal S256x1 .f32) (r : Fin 256) : expOf a (ix2 r 0) = kernelExp (a (ix2 r 0)) := by
  unfold expOf kernelExp field reaches invMax k0_pay117 k0_pay114 k0_pay116
  pointwise

/-! ## The quantiser of the rows of `x` -/

theorem pay1_eq (x : Vec Ideal S256x5120 .bf16) : k0_pay1 (F := Ideal) x = x := by
  unfold k0_pay1
  simp only [shapeCast_self]
  rfl

/-- The exponent of each row of `x`. -/
theorem pay2_apply (x : Vec Ideal S256x5120 .bf16) (r : Fin 256) :
    k0_pay2 (F := Ideal) x (ix2 r 0) = kernelExp (rowMax (xRow x r)) := by
  have h := rowMax_apply (k0_pay1 (F := Ideal) x) reduces_S256x5120_S256 (.inl rfl) rfl shapeCasts_S256_S256x1 (ix2 r 0)
  have h2 := (expOf_apply _ r).trans (congrArg kernelExp h)
  rw [pay1_eq] at h2
  refine Eq.trans ?_ h2
  rw [show k0_pay2 (F := Ideal) x = expOf (shapeCast S256x1 (multiReduction .maximumf [1] S256
    (absf (k0_pay1 (F := Ideal) x)) 0xFF800000#32 reduces_S256x5120_S256 (.inl rfl) rfl) shapeCasts_S256_S256x1) from rfl, pay1_eq]

/-- The scale of each row of `x`. -/
theorem scale_apply (x : Vec Ideal S256x5120 .bf16) (r : Fin 256) :
    k0_pay4 (F := Ideal) (k0_pay3 (F := Ideal) x) 23#32 (ix2 r 0) = rowScale (xRow x r) := by
  have h : k0_pay4 (F := Ideal) (k0_pay3 (F := Ideal) x) 23#32 (ix2 r 0) = Ideal.ofBits .f32
      (IntOp.shli ArithUnit.vector (IntOp.addi 127#32 (k0_pay2 (F := Ideal) x (ix2 r 0))) 23#32) := by
    unfold k0_pay4 k0_pay3
    rfl
  rw [h, pay2_apply]
  exact scale_eq (rowMax (xRow x r))

/-- The codes of each row of `x`. -/
theorem pay5_apply (x : Vec Ideal S256x5120 .bf16) (r : Fin 256) (k : Fin 5120) :
    k0_pay5 (F := Ideal) (k0_pay1 (F := Ideal) x) (k0_pay2 (F := Ideal) x) (ix2 r k) = rowCodes (xRow x r) k := by
  have h : ∀ (v : FVec Ideal S256x5120 .f32) (e : IVec S256x1 32), k0_pay5 (F := Ideal) v e (ix2 r k)
      = clip (v (ix2 r k)) (Ideal.ofBits .f32 (IntOp.shli ArithUnit.vector (IntOp.subi 127#32 (e (ix2 r 0))) 23#32)) := by
    intro v e
    unfold k0_pay5 clip
    pointwise
  rw [h, pay1_eq, pay2_apply]
  exact congrArg (clip _) (inv_eq (rowMax (xRow x r)))

/-! ## One column tile -/

/-- A tile's activation at a row and a column, from the rows' codes `d` and scales `a`, 128 columns `b` and `e` of the
    gate half's weights and column scales, 128 columns `c` and `f` of the other half's. -/
theorem pay12_apply (a : FVec Ideal S256x1 .f32) (b c : Vec Ideal S5120x128 .fp8e4m3) (d : Vec Ideal S256x5120 .fp8e4m3)
    (e f : Vec Ideal S1x128 .f32) (r : Fin 256) (l : Fin 128) :
    k0_pay12 (F := Ideal) a b c d e f (ix2 r l)
      = (∑ k : Fin 5120, d (ix2 r k) * b (ix2 k l)) * a (ix2 r 0) * e (ix2 0 l)
          * Ideal.logistic ((∑ k : Fin 5120, d (ix2 r k) * b (ix2 k l)) * a (ix2 r 0) * e (ix2 0 l))
        * ((∑ k : Fin 5120, d (ix2 r k) * c (ix2 k l)) * a (ix2 r 0) * f (ix2 0 l)) := by
  unfold k0_pay12
  pointwise

/-- One step of the running maximum: the maxima so far, and a tile's. -/
def maxStep (m : FVec Ideal S256x1 .f32) (t : FVec Ideal S256x128 .f32) : FVec Ideal S256x1 .f32 :=
  maximumf m (shapeCast S256x1
    (multiReduction .maximumf [1] S256 (absf t) 0xFF800000#32 reduces_S256x128_S256 (.inl rfl) rfl) shapeCasts_S256_S256x1)

theorem maxStep_apply (m : FVec Ideal S256x1 .f32) (t : FVec Ideal S256x128 .f32) (r : Fin 256) :
    maxStep m t (ix2 r 0) = max (m (ix2 r 0)) (rowMax fun l : Fin 128 => t (ix2 r l)) :=
  congrArg (max (m (ix2 r 0)))
    (rowMax_apply t reduces_S256x128_S256 (.inl rfl) rfl shapeCasts_S256_S256x1 (ix2 r 0))

/-! ## The quantiser of the rows of activations -/

/-- The scale of each row of activations, from the column of largest magnitudes. -/
theorem pay118_apply (a : FVec Ideal S256x1 .f32) (r : Fin 256) :
    k0_pay118 (F := Ideal) a k0_pay114
      (broadcastTo S256x256 (mulf a (broadcast S256x1 (Scalar.ofBits .f32 0x3B124925#32))) broadcasts_S256x1_S256x256)
      k0_pay116 (ix2 r 0) = refScale (a (ix2 r 0)) := by
  have he := expOf_apply a r
  unfold expOf at he
  rw [← scale_eq]
  unfold k0_pay118 kernelScale
  generalize k0_pay117 (F := Ideal) a k0_pay114 _ k0_pay116 = e at he
  rw [← he]
  rfl

/-- The codes of each row of activations, from the activations and the column of largest magnitudes. -/
theorem pay119_apply (a : FVec Ideal S256x1 .f32) (h : Vec Ideal S256x3456 .f32) (r : Fin 256) (j : Fin 3456) :
    k0_pay119 (F := Ideal) a k0_pay114
      (broadcastTo S256x256 (mulf a (broadcast S256x1 (Scalar.ofBits .f32 0x3B124925#32))) broadcasts_S256x1_S256x256)
      k0_pay116 h (ix2 r j) = clip (h (ix2 r j)) (refInv (a (ix2 r 0))) := by
  have he := expOf_apply a r
  unfold expOf at he
  rw [← inv_eq]
  unfold k0_pay119 clip kernelInv
  generalize k0_pay117 (F := Ideal) a k0_pay114 _ k0_pay116 = e at he
  rw [← he]
  pointwise

end Cert.Proof.Kern

end
-- ==== Proof.KernelTiles.lean ====
/- What the run of the body over one block of 256 rows holds: the 27 column tiles, the running maxima, and the scratch
   array they fill, each stated once for a tile number. -/
module

public import proofs.«01_k».proof.Proof.RunMax
public import proofs.«01_k».proof.Proof.KernelRows
public import proofs.«01_k».proof.Proof.Gen.KernelIdeal.Frame
public import Idealize.ShloMosaic.Lib.Pipeline.ReadBack

@[expose] public section

set_option maxRecDepth 65536

noncomputable section

namespace Cert.Proof.Kern

open Idealize.ShloMosaic Idealize.ShloMosaic.TcCoe Idealize.SL.Sem
open Cert.KernelIdeal Cert.KernelIdeal.Gen

variable (c : Dev nD) (arg1 : Memref sig .tc .vmem S256x5120 .bf16) (harg1 : arg1.IsWhole)
  (arg2 : Memref sig .tc .vmem S5120x6912 .fp8e4m3) (harg2 : arg2.IsWhole)
  (arg3 : Memref sig .tc .vmem S1x6912 .f32) (harg3 : arg3.IsWhole)
  (arg6 : Memref sig .tc .vmem S256x5120 .fp8e4m3) (arg8 : Memref sig .tc .vmem S256x3456 .f32)
  (x0 : Vec Ideal S256x5120 .bf16) (x1 : Vec Ideal S5120x6912 .fp8e4m3) (x2 : Vec Ideal S1x6912 .f32)

/-! ## The quantised rows -/

/-- The load of the whole block of `x`. -/
theorem load_x : View.readAt (Elt Ideal) arg1.view (Rect.unit ![0, 0] S256x5120.size inb_S256x5120_S256x5120_0_0).toLoadRect
    (harg1.unread x0) = x0 := by
  rw [View.readAt_eq_ld, harg1.read_unread]
  exact View.ld_unit_lit _ _ (by decide)

/-- The column of row scales. -/
theorem r3_apply (r : Fin 256) :
    kernelRun0_A.sl.r_3 (F := Ideal) c arg1 harg1 x0 (ix2 r 0) = rowScale (xRow x0 r) := by
  unfold kernelRun0_A.sl.r_3 kernelRun0_A.sl.r_2
  rw [load_x]
  exact scale_apply x0 r

/-- The stored codes, read back. -/
theorem v62_apply (r : Fin 256) (k : Fin 5120) :
    kernelRun0_A.sl.v62 (F := Ideal) c arg1 harg1 arg6 x0 (ix2 r k) = rowCodes (xRow x0 r) k := by
  unfold kernelRun0_A.sl.v62 kernelRun0_A.sl.H5_1 kernelRun0_A.sl.r kernelRun0_A.sl.r_1
  rw [load_x, View.readCov_unit_lit _ _ _ (by decide)]
  exact pay5_apply x0 r k

/-! ## The tiles -/

theorem inbW (o : ℕ) (k : ℕ) (h : o + 128 ≤ 3584) :
    ∀ a, (![0, o + 128 * (k % 27)] : Fin S5120x6912.rank → ℕ) a + S5120x128.size a ≤ S5120x6912.size a := by
  intro a
  match a with
  | ⟨0, _⟩ => exact Nat.le_refl 5120
  | ⟨1, _⟩ => show o + 128 * (k % 27) + 128 ≤ 6912; omega

theorem inbS (o : ℕ) (k : ℕ) (h : o + 128 ≤ 3584) :
    ∀ a, (![0, o + 128 * (k % 27)] : Fin S1x6912.rank → ℕ) a + S1x128.size a ≤ S1x6912.size a := by
  intro a
  match a with
  | ⟨0, _⟩ => exact Nat.le_refl 1
  | ⟨1, _⟩ => show o + 128 * (k % 27) + 128 ≤ 6912; omega

/-- 128 columns of the weights from column `o + 128 k`. -/
def wCols (o : ℕ) (h : o + 128 ≤ 3584) (k : ℕ) : Vec Ideal S5120x128 .fp8e4m3 :=
  View.readAt (Elt Ideal) arg2.view (Rect.unit (s := S5120x6912) ![0, o + 128 * (k % 27)] S5120x128.size (inbW o k h)).toLoadRect (harg2.unread x1)

/-- 128 of the column scales from column `o + 128 k`. -/
def sCols (o : ℕ) (h : o + 128 ≤ 3584) (k : ℕ) : Vec Ideal S1x128 .f32 :=
  View.readAt (Elt Ideal) arg3.view (Rect.unit (s := S1x6912) ![0, o + 128 * (k % 27)] S1x128.size (inbS o k h)).toLoadRect (harg3.unread x2)

theorem wCols_apply (o : ℕ) (h : o + 128 ≤ 3584) (k : ℕ) (i : Fin 5120) (l : Fin 128) :
    wCols arg2 harg2 x1 o h k (ix2 i l) = x1 (ix2 i ⟨o + 128 * (k % 27) + l.val, by omega⟩) := by
  unfold wCols
  rw [View.readAt_eq_ld, harg2.read_unread]
  refine congrArg x1 (funext fun a => Fin.ext ?_)
  match a with
  | ⟨0, _⟩ => show 0 + 1 * i.val = i.val; omega
  | ⟨1, _⟩ => show o + 128 * (k % 27) + 1 * l.val = o + 128 * (k % 27) + l.val; omega

theorem sCols_apply (o : ℕ) (h : o + 128 ≤ 3584) (k : ℕ) (l : Fin 128) :
    sCols arg3 harg3 x2 o h k (ix2 0 l) = x2 (ix2 0 ⟨o + 128 * (k % 27) + l.val, by omega⟩) := by
  unfold sCols
  rw [View.readAt_eq_ld, harg3.read_unread]
  refine congrArg x2 (funext fun a => Fin.ext ?_)
  match a with
  | ⟨0, _⟩ => rfl
  | ⟨1, _⟩ => show o + 128 * (k % 27) + 1 * l.val = o + 128 * (k % 27) + l.val; omega

/-- Tile `k` of the activations, as the body computes it. -/
def tile (k : ℕ) : FVec Ideal S256x128 .f32 :=
  k0_pay12 (F := Ideal) (kernelRun0_A.sl.r_3 (F := Ideal) c arg1 harg1 x0)
    (wCols arg2 harg2 x1 0 (by omega) k) (wCols arg2 harg2 x1 3456 (by omega) k)
    (kernelRun0_A.sl.v62 (F := Ideal) c arg1 harg1 arg6 x0)
    (sCols arg3 harg3 x2 0 (by omega) k) (sCols arg3 harg3 x2 3456 (by omega) k)

/-- A tile holds 128 columns of the activations. -/
theorem tile_apply (k : ℕ) (r : Fin 256) (l : Fin 128) :
    tile c arg1 harg1 arg2 harg2 arg3 harg3 arg6 x0 x1 x2 k (ix2 r l)
      = hRow x0 x1 x2 r ⟨128 * (k % 27) + l.val, by omega⟩ := by
  unfold tile
  rw [pay12_apply]
  simp only [r3_apply, v62_apply, wCols_apply, sCols_apply]
  unfold hRow act proj
  simp only [Nat.zero_add, Nat.add_assoc]

/-! ## The running maxima -/

/-- The running maxima after `k` tiles. -/
def maxs : ℕ → FVec Ideal S256x1 .f32
  | 0 => k0_pay6 (F := Ideal)
  | k + 1 => maxStep (maxs k) (tile c arg1 harg1 arg2 harg2 arg3 harg3 arg6 x0 x1 x2 k)

theorem maxs_isMax (r : Fin 256) : ∀ k : ℕ, k ≤ 27 →
    IsMax (hRow x0 x1 x2 r) (128 * k) (maxs c arg1 harg1 arg2 harg2 arg3 harg3 arg6 x0 x1 x2 k (ix2 r 0))
  | 0, _ => by
    have : maxs c arg1 harg1 arg2 harg2 arg3 harg3 arg6 x0 x1 x2 0 (ix2 r 0) = 0 := Ideal.ofBits_zero_f32
    rw [this]
    exact isMax_zero _
  | k + 1, hk => by
    have ih := maxs_isMax r k (by omega)
    show IsMax _ (128 * k + 128) (maxStep _ _ _)
    rw [maxStep_apply]
    refine ih.step (by omega) _ fun l => ?_
    rw [tile_apply]
    exact congrArg (hRow x0 x1 x2 r) (Fin.ext (by show 128 * (k % 27) + l.val = 128 * k + l.val; omega))

/-- After the last tile, the row's largest magnitude. -/
theorem maxs_apply (r : Fin 256) :
    maxs c arg1 harg1 arg2 harg2 arg3 harg3 arg6 x0 x1 x2 27 (ix2 r 0) = rowMax (hRow x0 x1 x2 r) :=
  (maxs_isMax c arg1 harg1 arg2 harg2 arg3 harg3 arg6 x0 x1 x2 r 27 le_rfl).eq_rowMax (by omega)

/-! ## The scratch array -/

theorem inbH (k : ℕ) :
    ∀ a, (![0, 128 * (k % 27)] : Fin S256x3456.rank → ℕ) a + S256x128.size a ≤ S256x3456.size a := by
  intro a
  match a with
  | ⟨0, _⟩ => exact Nat.le_refl 256
  | ⟨1, _⟩ => show 128 * (k % 27) + 128 ≤ 3456; omega

/-- The store of tile `k`. -/
def piece (k : ℕ) : View.Piece (Elt Ideal) S256x3456 .f32 :=
  ⟨Rect.unit (s := S256x3456) ![0, 128 * (k % 27)] S256x128.size (inbH k),
    shapeCast S256x128 (tile c arg1 harg1 arg2 harg2 arg3 harg3 arg6 x0 x1 x2 k) shapeCasts_S256x128_S256x128⟩

/-- The activations of the block. -/
def hBlock : Vec Ideal S256x3456 .f32 := fun i => hRow x0 x1 x2 (i 0) (i 1)

theorem piece_apply (k : ℕ) (x : (piece c arg1 harg1 arg2 harg2 arg3 harg3 arg6 x0 x1 x2 k).1.shape.Idx) :
    (piece c arg1 harg1 arg2 harg2 arg3 harg3 arg6 x0 x1 x2 k).2 x
      = hBlock x0 x1 x2 ((piece c arg1 harg1 arg2 harg2 arg3 harg3 arg6 x0 x1 x2 k).1.emb x) := by
  show shapeCast S256x128 (tile c arg1 harg1 arg2 harg2 arg3 harg3 arg6 x0 x1 x2 k) shapeCasts_S256x128_S256x128 x = _
  rw [shapeCast_self]
  obtain ⟨r, l, rfl⟩ : ∃ (r : Fin 256) (l : Fin 128), x = ix2 r l := ⟨x 0, x 1, eq_ix2 (n0 := 256) (n1 := 128) x⟩
  refine (tile_apply c arg1 harg1 arg2 harg2 arg3 harg3 arg6 x0 x1 x2 k r l).trans ?_
  show _ = hRow x0 x1 x2 _ _
  refine congrArg₂ (hRow x0 x1 x2) (Fin.ext ?_) (Fin.ext ?_)
  · show r.val = 0 + 1 * r.val; omega
  · show 128 * (k % 27) + l.val = 128 * (k % 27) + 1 * l.val; omega

/-- The 27 stores leave the activations of the block. -/
theorem canon_pieces (i : S256x3456.Idx) :
    View.canon ((List.range 27).reverse.map (piece c arg1 harg1 arg2 harg2 arg3 harg3 arg6 x0 x1 x2)) i = hBlock x0 x1 x2 i := by
  refine View.canon_apply_of_pieces _ _ ?_ i ?_
  · intro p hp x
    obtain ⟨k, -, rfl⟩ := List.mem_map.mp hp
    exact piece_apply c arg1 harg1 arg2 harg2 arg3 harg3 arg6 x0 x1 x2 k x
  · have h1 : (i 1).val < 3456 := (i 1).isLt
    refine ⟨piece c arg1 harg1 arg2 harg2 arg3 harg3 arg6 x0 x1 x2 ((i 1).val / 128), List.mem_map.mpr ⟨_, ?_, rfl⟩, ?_⟩
    · rw [List.mem_reverse, List.mem_range]; omega
    · refine (Rect.mem_set_unit (inb := inbH ((i 1).val / 128))).mpr fun a => ?_
      match a with
      | ⟨0, _⟩ => exact ⟨Nat.zero_le _, by show (i 0).val < 0 + 256; have : (i 0).val < 256 := (i 0).isLt; omega⟩
      | ⟨1, _⟩ =>
        constructor
        · show 128 * ((i 1).val / 128 % 27) ≤ (i 1).val; omega
        · show (i 1).val < 128 * ((i 1).val / 128 % 27) + 128; omega

/-! ## The run's own names -/

/-- The last running maximum of the run. -/
theorem r49_eq : kernelRun0_A.sl.r_49 (F := Ideal) c arg1 harg1 arg2 harg2 arg3 harg3 arg6 x0 x1 x2
    = maxs c arg1 harg1 arg2 harg2 arg3 harg3 arg6 x0 x1 x2 27 := by
  rfl

/-- The stores to the scratch array are the 27 tiles, the last first. -/
theorem hs_eq : kernelRun0_A.sl.HS0_27 (F := Ideal) c arg1 harg1 arg2 harg2 arg3 harg3 arg6 x0 x1 x2
    = (List.range 27).reverse.map (piece c arg1 harg1 arg2 harg2 arg3 harg3 arg6 x0 x1 x2) := by
  rfl

end Cert.Proof.Kern

end
-- ==== Proof.KernelBlock.lean ====
/- What one run of the body leaves in its four output blocks: the row functions of `Rows` over the block's 256 rows. -/
module

public import proofs.«01_k».proof.Proof.KernelTiles

@[expose] public section

set_option maxRecDepth 65536

noncomputable section

namespace Cert.Proof.Kern

open Idealize.ShloMosaic Idealize.ShloMosaic.TcCoe Idealize.SL.Sem
open Cert.KernelIdeal Cert.KernelIdeal.Gen

variable (c : Dev nD) (i : grid0.Coords) (arg1 : Memref sig .tc .vmem S256x5120 .bf16) (harg1 : arg1.IsWhole)
  (arg2 : Memref sig .tc .vmem S5120x6912 .fp8e4m3) (harg2 : arg2.IsWhole)
  (arg3 : Memref sig .tc .vmem S1x6912 .f32) (harg3 : arg3.IsWhole)
  (arg4 : Memref sig .tc .vmem S256x1 .f32) (harg4 : arg4.IsWhole)
  (arg5 : Memref sig .tc .vmem S256x3456 .fp8e4m3) (harg5 : arg5.IsWhole)
  (arg6 : Memref sig .tc .vmem S256x5120 .fp8e4m3) (harg6 : arg6.IsWhole)
  (arg7 : Memref sig .tc .vmem S256x1 .f32) (harg7 : arg7.IsWhole)
  (arg8 : Memref sig .tc .vmem S256x3456 .f32) (harg8 : arg8.IsWhole)
  (x0 : Vec Ideal S256x5120 .bf16) (x1 : Vec Ideal S5120x6912 .fp8e4m3) (x2 : Vec Ideal S1x6912 .f32)

/-- The column of the exponents' operands: the largest magnitudes times f32(1/448), spread over the lanes. -/
theorem r50_eq : kernelRun0_A.sl.r_50 (F := Ideal) c arg1 harg1 arg2 harg2 arg3 harg3 arg6 x0 x1 x2
    = broadcastTo S256x256 (mulf (maxs c arg1 harg1 arg2 harg2 arg3 harg3 arg6 x0 x1 x2 27)
        (broadcast S256x1 (Scalar.ofBits .f32 0x3B124925#32))) broadcasts_S256x1_S256x256 := by
  rfl

/-- The scratch array, read back whole. -/
theorem v912_apply (r : Fin 256) (j : Fin 3456) :
    kernelRun0_A.sl.v912 (F := Ideal) c arg1 harg1 arg2 harg2 arg3 harg3 arg6 arg8 x0 x1 x2 (ix2 r j)
      = hRow x0 x1 x2 r j := by
  unfold kernelRun0_A.sl.v912
  rw [hs_eq, View.readCov_eq_canon']
  refine (canon_pieces c arg1 harg1 arg2 harg2 arg3 harg3 arg6 x0 x1 x2 _).trans ?_
  show hRow x0 x1 x2 _ _ = _
  refine congrArg₂ (hRow x0 x1 x2) (Fin.ext ?_) (Fin.ext ?_)
  · show 0 + 1 * r.val = r.val; omega
  · show 0 + 1 * j.val = j.val; omega

/-- The scale of each row of activations. -/
theorem out3_apply (y : S256x1.Idx) :
    out0_A_3 (F := Ideal) c i arg1 harg1 arg2 harg2 arg3 harg3 arg4 harg4 arg5 harg5 arg6 harg6 arg7 harg7 arg8 harg8 x0 x1 x2 y
      = rowScale (hRow x0 x1 x2 (y 0)) := by
  have h : out0_A_3 (F := Ideal) c i arg1 harg1 arg2 harg2 arg3 harg3 arg4 harg4 arg5 harg5 arg6 harg6 arg7 harg7 arg8 harg8 x0 x1 x2
      = k0_pay118 (F := Ideal) (kernelRun0_A.sl.r_49 (F := Ideal) c arg1 harg1 arg2 harg2 arg3 harg3 arg6 x0 x1 x2) k0_pay114
          (kernelRun0_A.sl.r_50 (F := Ideal) c arg1 harg1 arg2 harg2 arg3 harg3 arg6 x0 x1 x2) k0_pay116 := by
    unfold out0_A_3
    rw [View.read_writes_junk_eq_canon]
    exact View.canon_cons_unit_lit _ _ _ (by decide)
  obtain ⟨r, z, rfl⟩ : ∃ (r : Fin 256) (z : Fin 1), y = ix2 r z := ⟨y 0, y 1, eq_ix2 (n0 := 256) (n1 := 1) y⟩
  obtain rfl : z = 0 := Subsingleton.elim _ _
  rw [h, r49_eq, r50_eq, pay118_apply, maxs_apply]
  rfl

/-- The codes of each row of activations. -/
theorem out4_apply (y : S256x3456.Idx) :
    out0_A_4 (F := Ideal) c i arg1 harg1 arg2 harg2 arg3 harg3 arg4 harg4 arg5 harg5 arg6 harg6 arg7 harg7 arg8 harg8 x0 x1 x2 y
      = rowCodes (hRow x0 x1 x2 (y 0)) (y 1) := by
  have h : out0_A_4 (F := Ideal) c i arg1 harg1 arg2 harg2 arg3 harg3 arg4 harg4 arg5 harg5 arg6 harg6 arg7 harg7 arg8 harg8 x0 x1 x2
      = k0_pay119 (F := Ideal) (kernelRun0_A.sl.r_49 (F := Ideal) c arg1 harg1 arg2 harg2 arg3 harg3 arg6 x0 x1 x2) k0_pay114
          (kernelRun0_A.sl.r_50 (F := Ideal) c arg1 harg1 arg2 harg2 arg3 harg3 arg6 x0 x1 x2) k0_pay116
          (kernelRun0_A.sl.v912 (F := Ideal) c arg1 harg1 arg2 harg2 arg3 harg3 arg6 arg8 x0 x1 x2) := by
    unfold out0_A_4
    rw [View.read_writes_junk_eq_canon]
    exact View.canon_cons_unit_lit _ _ _ (by decide)
  obtain ⟨r, j, rfl⟩ : ∃ (r : Fin 256) (j : Fin 3456), y = ix2 r j := ⟨y 0, y 1, eq_ix2 (n0 := 256) (n1 := 3456) y⟩
  rw [h, r49_eq, r50_eq, pay119_apply, maxs_apply, v912_apply]
  rfl

/-- The codes of each row of `x`. -/
theorem out5_apply (y : S256x5120.Idx) :
    out0_A_5 (F := Ideal) c i arg1 harg1 arg2 harg2 arg3 harg3 arg4 harg4 arg5 harg5 arg6 harg6 arg7 harg7 arg8 harg8 x0 x1 x2 y
      = rowCodes (xRow x0 (y 0)) (y 1) := by
  have h : out0_A_5 (F := Ideal) c i arg1 harg1 arg2 harg2 arg3 harg3 arg4 harg4 arg5 harg5 arg6 harg6 arg7 harg7 arg8 harg8 x0 x1 x2
      = k0_pay5 (F := Ideal) (k0_pay1 (F := Ideal) x0) (k0_pay2 (F := Ideal) x0) := by
    unfold out0_A_5
    rw [View.read_writes_junk_eq_canon]
    show View.canon (kernelRun0_A.sl.H5_1 (F := Ideal) c arg1 harg1 x0) = _
    unfold kernelRun0_A.sl.H5_1 kernelRun0_A.sl.r kernelRun0_A.sl.r_1
    rw [load_x]
    exact View.canon_cons_unit_lit _ _ _ (by decide)
  obtain ⟨r, k, rfl⟩ : ∃ (r : Fin 256) (k : Fin 5120), y = ix2 r k := ⟨y 0, y 1, eq_ix2 (n0 := 256) (n1 := 5120) y⟩
  rw [h, pay5_apply]
  rfl

/-- The scale of each row of `x`. -/
theorem out6_apply (y : S256x1.Idx) :
    out0_A_6 (F := Ideal) c i arg1 harg1 arg2 harg2 arg3 harg3 arg4 harg4 arg5 harg5 arg6 harg6 arg7 harg7 arg8 harg8 x0 x1 x2 y
      = rowScale (xRow x0 (y 0)) := by
  have h : out0_A_6 (F := Ideal) c i arg1 harg1 arg2 harg2 arg3 harg3 arg4 harg4 arg5 harg5 arg6 harg6 arg7 harg7 arg8 harg8 x0 x1 x2
      = kernelRun0_A.sl.r_3 (F := Ideal) c arg1 harg1 x0 := by
    unfold out0_A_6
    rw [View.read_writes_junk_eq_canon]
    exact View.canon_cons_unit_lit _ _ _ (by decide)
  obtain ⟨r, z, rfl⟩ : ∃ (r : Fin 256) (z : Fin 1), y = ix2 r z := ⟨y 0, y 1, eq_ix2 (n0 := 256) (n1 := 1) y⟩
  obtain rfl : z = 0 := Subsingleton.elim _ _
  rw [h, r3_apply]
  rfl

end Cert.Proof.Kern

end
-- ==== Proof.Results.lean ====
/- The four results as whole arrays: what both programs are shown to leave, as functions of the activations, the weights
   and the weights' scales, at any number of rows. -/
module

public import proofs.«01_k».proof.Proof.Rows

@[expose] public section

noncomputable section

namespace Cert.Proof

open Idealize.ShloMosaic

/-- The scale of each row of gated activations. -/
def hScales {m : ℕ} (x : (⟨2, ![m, 5120]⟩ : Shape).Idx → EReal) (w : (⟨2, ![5120, 6912]⟩ : Shape).Idx → EReal)
    (ws : (⟨2, ![1, 6912]⟩ : Shape).Idx → EReal) : (⟨2, ![m, 1]⟩ : Shape).Idx → EReal :=
  fun i => rowScale (hRow x w ws (i 0))

/-- The codes of each row of gated activations. -/
def hCodes {m : ℕ} (x : (⟨2, ![m, 5120]⟩ : Shape).Idx → EReal) (w : (⟨2, ![5120, 6912]⟩ : Shape).Idx → EReal)
    (ws : (⟨2, ![1, 6912]⟩ : Shape).Idx → EReal) : (⟨2, ![m, 3456]⟩ : Shape).Idx → EReal :=
  fun i => rowCodes (hRow x w ws (i 0)) (i 1)

/-- The codes of each row of `x`. -/
def xCodes {m : ℕ} (x : (⟨2, ![m, 5120]⟩ : Shape).Idx → EReal) : (⟨2, ![m, 5120]⟩ : Shape).Idx → EReal :=
  fun i => rowCodes (xRow x (i 0)) (i 1)

/-- The scale of each row of `x`. -/
def xScales {m : ℕ} (x : (⟨2, ![m, 5120]⟩ : Shape).Idx → EReal) : (⟨2, ![m, 1]⟩ : Shape).Idx → EReal :=
  fun i => rowScale (xRow x (i 0))

end Cert.Proof

end
-- ==== Proof.KernelArray.lean ====
/- The kernel's four result arrays after the run: point `t` of the grid takes rows `256 t … 256 t + 255` of the
   activations, the whole weights and the whole scales, and writes the same rows of each result; the 96 blocks fill each
   array. -/
module

public import proofs.«01_k».proof.Proof.KernelBlock
public import proofs.«01_k».proof.Proof.Results
public import proofs.«01_k».proof.Proof.Gen.KernelIdeal.Value
public import Idealize.ShloMosaic.Lib.Pipeline.ValueKit
public import Idealize.ShloMosaic.Lib.Claim

@[expose] public section

set_option maxRecDepth 65536

noncomputable section

namespace Cert.Proof.Kern

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg) (c : Dev nD)

/-- The activations as the region finds them: one row per token. -/
abbrev xs : Vec Ideal S24576x5120 .bf16 := V m c main_v0
/-- The weights as the region finds them. -/
abbrev wt : Vec Ideal S5120x6912 .fp8e4m3 := V m c main_arg1
/-- The weights' scales as the region finds them: one row. -/
abbrev sc : Vec Ideal S1x6912 .f32 := V m c main_v1

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])
theorem index3 : ∀ t : Fin cfg0.N, win0_3.index t = ![t.val, 0] := (by decide +kernel : ∀ t : Fin grid0.N, win0_3.index t = ![t.val, 0])
theorem index4 : ∀ t : Fin cfg0.N, win0_4.index t = ![t.val, 0] := (by decide +kernel : ∀ t : Fin grid0.N, win0_4.index t = ![t.val, 0])
theorem index5 : ∀ t : Fin cfg0.N, win0_5.index t = ![t.val, 0] := (by decide +kernel : ∀ t : Fin grid0.N, win0_5.index t = ![t.val, 0])
theorem index6 : ∀ t : Fin cfg0.N, win0_6.index t = ![t.val, 0] := (by decide +kernel : ∀ t : Fin grid0.N, win0_6.index t = ![t.val, 0])

/-- Row `r` of point `t`'s block, as a row of the whole array. -/
def rowOf (t : Fin cfg0.N) (r : Fin 256) : Fin 24576 :=
  ⟨t.val * 256 + r.val, by have := t.isLt; have h : cfg0.N = 96 := N_0; have := r.isLt; omega⟩

/-- Point `t`'s block of activations, at an index. -/
theorem iblk0_apply (t : Fin cfg0.N) (r : Fin 256) (k : Fin 5120) :
    (iblk m c 0 t : Vec Ideal S256x5120 .bf16) (ix2 r k) = xs m c (ix2 (rowOf t r) k) := by
  unfold iblk
  rw [View.read_apply]
  show V m c main_v0 _ = V m c main_v0 _
  congr 1
  funext a
  apply Fin.ext
  match a with
  | ⟨0, _⟩ => show win0_0.index t 0 * 256 + 1 * r.val = t.val * 256 + r.val; rw [index0]; simp
  | ⟨1, _⟩ => show win0_0.index t 1 * 5120 + 1 * k.val = k.val; rw [index0]; simp

/-- Point `t`'s block of weights is the weights. -/
theorem iblk1_eq (t : Fin cfg0.N) : (iblk m c 1 t : Vec Ideal S5120x6912 .fp8e4m3) = wt m c := by
  funext y
  unfold iblk
  rw [View.read_apply]
  show V m c main_arg1 _ = V m c main_arg1 _
  congr 1
  funext a
  apply Fin.ext
  match a with
  | ⟨0, _⟩ => show win0_1.index t 0 * 5120 + 1 * (y 0).val = (y 0).val; rw [index1]; simp
  | ⟨1, _⟩ => show win0_1.index t 1 * 6912 + 1 * (y 1).val = (y 1).val; rw [index1]; simp

/-- Point `t`'s block of scales is the scales. -/
theorem iblk2_eq (t : Fin cfg0.N) : (iblk m c 2 t : Vec Ideal S1x6912 .f32) = sc m c := by
  funext y
  unfold iblk
  rw [View.read_apply]
  show V m c main_v1 _ = V m c main_v1 _
  congr 1
  funext a
  apply Fin.ext
  match a with
  | ⟨0, _⟩ => show win0_2.index t 0 * 1 + 1 * (y 0).val = (y 0).val; rw [index2]; simp
  | ⟨1, _⟩ => show win0_2.index t 1 * 6912 + 1 * (y 1).val = (y 1).val; rw [index2]; simp

/-- A row of point `t`'s block is that row of the activations. -/
theorem xRow_iblk (t : Fin cfg0.N) (r : Fin 256) :
    xRow (iblk m c 0 t : Vec Ideal S256x5120 .bf16) r = xRow (xs m c) (rowOf t r) :=
  funext fun k => iblk0_apply m c t r k

/-- So the gated activations of a row of point `t`'s block are those of that row of the activations. -/
theorem hRow_iblk (t : Fin cfg0.N) (r : Fin 256) :
    hRow (iblk m c 0 t : Vec Ideal S256x5120 .bf16) (iblk m c 1 t : Vec Ideal S5120x6912 .fp8e4m3)
        (iblk m c 2 t : Vec Ideal S1x6912 .f32) r = hRow (xs m c) (wt m c) (sc m c) (rowOf t r) := by
  rw [iblk1_eq, iblk2_eq]
  unfold hRow
  rw [xRow_iblk]

/-- The first result array after the run. -/
theorem final3 : (dats m 0 c).arrAt 3 cfg0.N = hScales (xs m c) (wt m c) (sc m c) := by
  refine (dats m 0 c).arrAt_eq_of_covers 3 _ (by decide +kernel) fun t hf y => ?_
  have e := congrFun (Value.flushed3_A m c t) y
  refine Eq.trans (b := hScales (iblk m c 0 t : Vec Ideal S256x5120 .bf16) (iblk m c 1 t : Vec Ideal S5120x6912 .fp8e4m3)
        (iblk m c 2 t : Vec Ideal S1x6912 .f32) y) (e.trans (out3_apply ..)) ?_
  refine (congrArg rowScale (hRow_iblk m c t (y 0))).trans ?_
  refine congrArg (fun r => rowScale (hRow (xs m c) (wt m c) (sc m c) r)) (Fin.ext ?_)
  show t.val * 256 + (y 0).val = win0_3.index t 0 * 256 + 1 * (y 0).val
  rw [index3]; simp

/-- The second result array after the run. -/
theorem final4 : (dats m 0 c).arrAt 4 cfg0.N = hCodes (xs m c) (wt m c) (sc m c) := by
  refine (dats m 0 c).arrAt_eq_of_covers 4 _ (by decide +kernel) fun t hf y => ?_
  have e := congrFun (Value.flushed4_A m c t) y
  refine Eq.trans (b := hCodes (iblk m c 0 t : Vec Ideal S256x5120 .bf16) (iblk m c 1 t : Vec Ideal S5120x6912 .fp8e4m3)
        (iblk m c 2 t : Vec Ideal S1x6912 .f32) y) (e.trans (out4_apply ..)) ?_
  refine (congrArg (fun f : Fin 3456 → EReal => rowCodes f (y 1)) (hRow_iblk m c t (y 0))).trans ?_
  refine congrArg₂ (fun r j => rowCodes (hRow (xs m c) (wt m c) (sc m c) r) j) (Fin.ext ?_) (Fin.ext ?_)
  · show t.val * 256 + (y 0).val = win0_4.index t 0 * 256 + 1 * (y 0).val
    rw [index4]; simp
  · show (y 1).val = win0_4.index t 1 * 3456 + 1 * (y 1).val
    rw [index4]; simp

/-- The third result array after the run. -/
theorem final5 : (dats m 0 c).arrAt 5 cfg0.N = xCodes (xs m c) := by
  refine (dats m 0 c).arrAt_eq_of_covers 5 _ (by decide +kernel) fun t hf y => ?_
  have e := congrFun (Value.flushed5_A m c t) y
  refine Eq.trans (b := xCodes (iblk m c 0 t : Vec Ideal S256x5120 .bf16) y) (e.trans (out5_apply ..)) ?_
  refine (congrArg (fun f : Fin 5120 → EReal => rowCodes f (y 1)) (xRow_iblk m c t (y 0))).trans ?_
  refine congrArg₂ (fun r j => rowCodes (xRow (xs m c) r) j) (Fin.ext ?_) (Fin.ext ?_)
  · show t.val * 256 + (y 0).val = win0_5.index t 0 * 256 + 1 * (y 0).val
    rw [index5]; simp
  · show (y 1).val = win0_5.index t 1 * 5120 + 1 * (y 1).val
    rw [index5]; simp

/-- The fourth result array after the run. -/
theorem final6 : (dats m 0 c).arrAt 6 cfg0.N = xScales (xs m c) := by
  refine (dats m 0 c).arrAt_eq_of_covers 6 _ (by decide +kernel) fun t hf y => ?_
  have e := congrFun (Value.flushed6_A m c t) y
  refine Eq.trans (b := xScales (iblk m c 0 t : Vec Ideal S256x5120 .bf16) y) (e.trans (out6_apply ..)) ?_
  refine (congrArg rowScale (xRow_iblk m c t (y 0))).trans ?_
  refine congrArg (fun r => rowScale (xRow (xs m c) r)) (Fin.ext ?_)
  show t.val * 256 + (y 0).val = win0_6.index t 0 * 256 + 1 * (y 0).val
  rw [index6]; simp

/-- The region finds the activations' argument re-read as one row per token. -/
theorem xs_eq : xs m c = shapeCast S24576x5120 (m ((c : Thread nD τ).loc main_arg0) : Vec Ideal S8x3072x5120 .bf16)
    shapeCasts_S8x3072x5120_S24576x5120 := by
  unfold xs
  entry_read
  rfl

/-- The region finds the weights' argument as launched. -/
theorem wt_eq : wt m c = m ((c : Thread nD τ).loc main_arg1) := V_main_arg1 m c

/-- The region finds the scales' argument re-read as one row. -/
theorem sc_eq : sc m c = shapeCast S1x6912 (m ((c : Thread nD τ).loc main_arg2) : Vec Ideal S6912 .f32)
    shapeCasts_S6912_S1x6912 := by
  unfold sc
  entry_read
  rfl

/-- The run, read: the four results and the unchanged arguments. -/
theorem run : θ_run defs (onTc (τ := τ) (main (F := Ideal))) ⟨m, fun _ => 0, ρ⟩ fun r => ∀ c : Dev nD,
      r.2.mem ((c : Thread nD τ).loc main_v2_0) = hScales (xs m c) (wt m c) (sc m c)
      ∧ r.2.mem ((c : Thread nD τ).loc main_v2_1) = hCodes (xs m c) (wt m c) (sc m c)
      ∧ r.2.mem ((c : Thread nD τ).loc main_v2_2) = xCodes (xs m c)
      ∧ r.2.mem ((c : Thread nD τ).loc main_v2_3) = xScales (xs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2.1.trans (final4 m c),
      (h c).2.2.1.trans (final5 m c), (h c).2.2.2.1.trans (final6 m c), (h c).2.2.2.2⟩)
    (Value.run_blocks m ρ)

end Cert.Proof.Kern

end
-- ==== Proof.RefRows.lean ====
/- What the reference's payloads hold at an index: the row functions of `Rows`, over the whole arrays. -/
module

public import proofs.«01_k».proof.Proof.Rows
public import proofs.«01_k».proof.Proof.Gen.ReferenceIdeal.Frame
public import Idealize.ShloMosaic.Lib.Pipeline.ValueKit.Basic

@[expose] public section

set_option maxRecDepth 65536

noncomputable section

namespace Cert.Proof.Ref

open Idealize.ShloMosaic
open Cert.ReferenceIdeal Cert.ReferenceIdeal.Gen

/-- The reference's exponent as it prints it, from the column of largest magnitudes. -/
def expOf {s : Shape} (a : FVec Ideal s .f32) : FVec Ideal s .f32 :=
  select (cmpf .oeq a (broadcast s (Scalar.ofBits .f32 0x00000000#32))) (broadcast s (Scalar.ofBits .f32 0x00000000#32))
    (select
      (andi (cmpf .oge (mulf a (broadcast s (Scalar.ofBits .f32 0x3B124925#32))) (broadcast s (Scalar.ofBits .f32 0x00800000#32)))
        (cmpf .olt (mulf a (broadcast s (Scalar.ofBits .f32 0x3B124925#32))) (broadcast s (Scalar.ofBits .f32 0x7E800000#32))))
      (addf
        (floor (divf (log (mulf a (broadcast s (Scalar.ofBits .f32 0x3B124925#32))))
          (log (broadcast s (Scalar.ofBits .f32 0x40000000#32)))))
        (broadcast s (Scalar.ofBits .f32 0x3F800000#32)))
      (broadcast s (Scalar.ofBits .f32 0x00000000#32)))

theorem expOf_apply {s : Shape} (a : FVec Ideal s .f32) (i : s.Idx) : expOf a i = refExp (a i) := by
  unfold expOf refExp invMax
  have hz : Ideal.ofBits .f32 0x00000000#32 = 0 := Ideal.ofBits_zero_f32
  show Scalar.select (BitVec.ofBool (decide (a i = Ideal.ofBits .f32 0x00000000#32))) (Ideal.ofBits .f32 0x00000000#32)
    (Scalar.select (IntOp.andi (BitVec.ofBool (decide (Ideal.ofBits .f32 0x00800000#32 ≤ a i * Ideal.ofBits .f32 0x3B124925#32)))
        (BitVec.ofBool (decide (a i * Ideal.ofBits .f32 0x3B124925#32 < Ideal.ofBits .f32 0x7E800000#32))))
      (Ideal.liftRound Int.floor (Ideal.div (Ideal.log (a i * Ideal.ofBits .f32 0x3B124925#32))
        (Ideal.log (Ideal.ofBits .f32 0x40000000#32))) + Ideal.ofBits .f32 0x3F800000#32)
      (Ideal.ofBits .f32 0x00000000#32)) = _
  rw [hz]
  have hs : ∀ (b : Bool) (x y : EReal), Scalar.select (BitVec.ofBool b) x y = if b = true then x else y := by
    intro b x y; cases b <;> rfl
  have ha : ∀ b c : Bool, IntOp.andi (BitVec.ofBool b) (BitVec.ofBool c) = BitVec.ofBool (b && c) := by decide
  rw [ha, hs, hs]
  simp only [Bool.and_eq_true, decide_eq_true_eq]

/-- A column spread over a matrix, read at an index. -/
theorem column_apply {m n : ℕ} {α : Type} (v : (⟨2, ![m, 1]⟩ : Shape).Idx → α)
    (h : Shape.Broadcasts ⟨2, ![m, 1]⟩ ⟨2, ![m, n]⟩) (i : (⟨2, ![m, n]⟩ : Shape).Idx) :
    broadcastTo ⟨2, ![m, n]⟩ v h i = v (ix2 (i 0) 0) := by
  refine broadcastTo_apply v h i (ix2 (i 0) 0) fun k => ?_
  match k with
  | ⟨0, _⟩ =>
    show (i 0).val = if m = 1 then 0 else (i 0).val
    have h0 : (i 0).val < m := (i 0).isLt
    split
    · omega
    · rfl
  | ⟨1, _⟩ => rfl

/-- The reference's codes as it prints them, from the values and the column of exponents. -/
def codesOf {m n : ℕ} (v : FVec Ideal ⟨2, ![m, n]⟩ .f32) (e : FVec Ideal ⟨2, ![m, 1]⟩ .f32)
    (h : Shape.Broadcasts ⟨2, ![m, 1]⟩ ⟨2, ![m, n]⟩) : FVec Ideal ⟨2, ![m, n]⟩ .fp8e4m3 :=
  truncf .fp8e4m3 (minimumf (broadcast _ (Scalar.ofBits .f32 0x43E00000#32))
    (maximumf (broadcast _ (Scalar.ofBits .f32 0xC3E00000#32))
      (mulf v (broadcastTo ⟨2, ![m, n]⟩
        (exp2 (subf (broadcast ⟨2, ![m, 1]⟩ (Scalar.ofBits .f32 0x00000000#32)) e)) h)))) bitsLt_fp8e4m3_f32

theorem codesOf_apply {m n : ℕ} (v : FVec Ideal ⟨2, ![m, n]⟩ .f32) (e : FVec Ideal ⟨2, ![m, 1]⟩ .f32)
    (h : Shape.Broadcasts ⟨2, ![m, 1]⟩ ⟨2, ![m, n]⟩) (i : (⟨2, ![m, n]⟩ : Shape).Idx) :
    codesOf v e h i = clip (v i) (Ideal.exp2 (0 - e (ix2 (i 0) 0))) := by
  have hb := column_apply (exp2 (subf (broadcast ⟨2, ![m, 1]⟩ (Scalar.ofBits .f32 0x00000000#32)) e)) h i
  show min (Ideal.ofBits .f32 0x43E00000#32) (max (Ideal.ofBits .f32 0xC3E00000#32) (v i * broadcastTo ⟨2, ![m, n]⟩
        (exp2 (subf (broadcast ⟨2, ![m, 1]⟩ (Scalar.ofBits .f32 0x00000000#32)) e)) h i)) = _
  rw [hb]
  show clip (v i) (Ideal.exp2 (Ideal.ofBits .f32 0x00000000#32 - e (ix2 (i 0) 0))) = _
  rw [Ideal.ofBits_zero_f32]

theorem exp2_at {s : Shape} (e : FVec Ideal s .f32) (i : s.Idx) : exp2 e i = Ideal.exp2 (e i) := rfl

theorem pay1_eq (x : Vec Ideal S24576x5120 .bf16) : k0_pay1 (F := Ideal) x = x := by
  unfold k0_pay1
  simp only [shapeCast_self]
  rfl

/-- The exponent of each row of `x`. -/
theorem pay2_apply (x : Vec Ideal S24576x5120 .bf16) (i : S24576x1.Idx) :
    k0_pay2 (F := Ideal) x i = refExp (rowMax fun k : Fin 5120 => x (ix2 (i 0) k)) := by
  have h := rowMax_apply (k0_pay1 x) reduces_S24576x5120_S24576 (.inl rfl) rfl shapeCasts_S24576_S24576x1 i
  have h2 := (expOf_apply _ i).trans (congrArg refExp h)
  rw [pay1_eq] at h2
  refine Eq.trans ?_ h2
  unfold k0_pay2 expOf
  rw [pay1_eq]

/-- The scale of each row of `x`. -/
theorem pay3_apply (x : Vec Ideal S24576x5120 .bf16) (i : S24576x1.Idx) :
    k0_pay3 (F := Ideal) x i = rowScale fun k : Fin 5120 => x (ix2 (i 0) k) := by
  unfold k0_pay3
  exact (exp2_at _ i).trans (congrArg Ideal.exp2 (pay2_apply x i))

/-- The codes of each row of `x`. -/
theorem pay4_apply (x : Vec Ideal S24576x5120 .bf16) (i : S24576x5120.Idx) :
    k0_pay4 (F := Ideal) x i = rowCodes (fun k : Fin 5120 => x (ix2 (i 0) k)) (i 1) := by
  have h := codesOf_apply (k0_pay1 x) (k0_pay2 x) broadcasts_S24576x1_S24576x5120 i
  rw [pay1_eq, pay2_apply] at h
  have h3 : k0_pay4 (F := Ideal) x = codesOf (k0_pay1 x) (k0_pay2 x) broadcasts_S24576x1_S24576x5120 := by
    unfold k0_pay4 codesOf
    rfl
  rw [h3, pay1_eq, h]
  have hx : x i = x (ix2 (i 0) (i 1)) := congrArg x (eq_ix2 i)
  rw [hx]
  rfl

theorem pay5_apply (x : Vec Ideal S24576x5120 .bf16) (w : Vec Ideal S5120x6912 .fp8e4m3) (i : S24576x6912.Idx) :
    k0_pay5 (F := Ideal) x w i = (∑ k : Fin 5120, k0_pay4 (F := Ideal) x (ix2 (i 0) k) * w (ix2 k (i 1)))
      * k0_pay3 (F := Ideal) x (ix2 (i 0) 0) := by
  unfold k0_pay5
  generalize k0_pay4 (F := Ideal) x = c
  generalize k0_pay3 (F := Ideal) x = s
  pointwise

/-- The projected and row-scaled columns. -/
theorem pay5_row (x : Vec Ideal S24576x5120 .bf16) (w : Vec Ideal S5120x6912 .fp8e4m3) (r : Fin 24576) (c : Fin 6912) :
    k0_pay5 (F := Ideal) x w (ix2 r c) = (∑ k : Fin 5120, rowCodes (xRow x r) k * w (ix2 k c)) * rowScale (xRow x r) := by
  refine (pay5_apply x w (ix2 r c)).trans ?_
  rw [pay3_apply]
  refine congrArg (· * _) (Finset.sum_congr rfl fun k _ => ?_)
  rw [pay4_apply]
  rfl

theorem pay6_apply (v : FVec Ideal S24576x6912 .f32) (s : Vec Ideal S1x6912 .f32) (r : Fin 24576) (j : Fin 3456) :
    k0_pay6 (F := Ideal) v s (ix2 r j) = v (ix2 r ⟨j.val, by omega⟩) * s (ix2 0 ⟨j.val, by omega⟩)
        * Ideal.logistic (v (ix2 r ⟨j.val, by omega⟩) * s (ix2 0 ⟨j.val, by omega⟩))
      * (v (ix2 r ⟨3456 + j.val, by omega⟩) * s (ix2 0 ⟨3456 + j.val, by omega⟩)) := by
  unfold k0_pay6
  pointwise

/-- The gated activations. -/
theorem pay6_row (x : Vec Ideal S24576x5120 .bf16) (w : Vec Ideal S5120x6912 .fp8e4m3) (s : Vec Ideal S1x6912 .f32)
    (r : Fin 24576) (j : Fin 3456) :
    k0_pay6 (F := Ideal) (k0_pay5 (F := Ideal) x w) s (ix2 r j) = hRow x w s r j := by
  rw [pay6_apply, pay5_row, pay5_row]
  rfl

/-- The exponent of each row of activations. -/
theorem pay7_apply (v : FVec Ideal S24576x6912 .f32) (s : Vec Ideal S1x6912 .f32) (i : S24576x1.Idx) :
    k0_pay7 (F := Ideal) v s i = refExp (rowMax fun j : Fin 3456 => k0_pay6 (F := Ideal) v s (ix2 (i 0) j)) := by
  have h := rowMax_apply (k0_pay6 (F := Ideal) v s) reduces_S24576x3456_S24576 (.inl rfl) rfl shapeCasts_S24576_S24576x1 i
  refine Eq.trans ?_ ((expOf_apply _ i).trans (congrArg refExp h))
  unfold k0_pay7 expOf
  rfl

/-- The scale of each row of activations. -/
theorem pay8_apply (v : FVec Ideal S24576x6912 .f32) (s : Vec Ideal S1x6912 .f32) (i : S24576x1.Idx) :
    k0_pay8 (F := Ideal) v s i = rowScale fun j : Fin 3456 => k0_pay6 (F := Ideal) v s (ix2 (i 0) j) := by
  unfold k0_pay8
  exact (exp2_at _ i).trans (congrArg Ideal.exp2 (pay7_apply v s i))

/-- The codes of each row of activations. -/
theorem pay9_apply (v : FVec Ideal S24576x6912 .f32) (s : Vec Ideal S1x6912 .f32) (i : S24576x3456.Idx) :
    k0_pay9 (F := Ideal) v s i = rowCodes (fun j : Fin 3456 => k0_pay6 (F := Ideal) v s (ix2 (i 0) j)) (i 1) := by
  have h := codesOf_apply (k0_pay6 (F := Ideal) v s) (k0_pay7 (F := Ideal) v s) broadcasts_S24576x1_S24576x3456 i
  rw [pay7_apply] at h
  have h3 : k0_pay9 (F := Ideal) v s
      = codesOf (k0_pay6 (F := Ideal) v s) (k0_pay7 (F := Ideal) v s) broadcasts_S24576x1_S24576x3456 := by
    unfold k0_pay9 codesOf
    rfl
  rw [h3, h]
  have hx : k0_pay6 (F := Ideal) v s i = k0_pay6 (F := Ideal) v s (ix2 (i 0) (i 1)) :=
    congrArg (k0_pay6 (F := Ideal) v s) (eq_ix2 i)
  rw [hx]
  rfl

/-- The reference's first result: the scale of each row of activations. -/
theorem out3_apply (x : Vec Ideal S24576x5120 .bf16) (w : Vec Ideal S5120x6912 .fp8e4m3) (s : Vec Ideal S1x6912 .f32)
    (i : S24576x1.Idx) : out0_3 (F := Ideal) x w s i = rowScale (hRow x w s (i 0)) := by
  have hc : out0_3 (F := Ideal) x w s = k0_pay8 (F := Ideal) (k0_pay5 (F := Ideal) x w) s := by
    unfold out0_3 k0_pay10
    rw [View.canon_cons_unit_lit _ _ _ (by decide), View.ld_unit_lit _ _ (by decide), View.ld_unit_lit _ _ (by decide),
      View.ld_unit_lit _ _ (by decide)]
  rw [hc, pay8_apply]
  exact congrArg rowScale (funext fun j => pay6_row x w s (i 0) j)

/-- The reference's second result: the codes of each row of activations. -/
theorem out4_apply (x : Vec Ideal S24576x5120 .bf16) (w : Vec Ideal S5120x6912 .fp8e4m3) (s : Vec Ideal S1x6912 .f32)
    (i : S24576x3456.Idx) : out0_4 (F := Ideal) x w s i = rowCodes (hRow x w s (i 0)) (i 1) := by
  have hc : out0_4 (F := Ideal) x w s = k0_pay9 (F := Ideal) (k0_pay5 (F := Ideal) x w) s := by
    unfold out0_4 k0_pay10
    rw [View.canon_cons_unit_lit _ _ _ (by decide), View.ld_unit_lit _ _ (by decide), View.ld_unit_lit _ _ (by decide),
      View.ld_unit_lit _ _ (by decide)]
  rw [hc, pay9_apply]
  exact congrArg (fun f : Fin 3456 → EReal => rowCodes f (i 1)) (funext fun j => pay6_row x w s (i 0) j)

/-- The reference's third result: the codes of each row of `x`. -/
theorem out5_apply (x : Vec Ideal S24576x5120 .bf16) (w : Vec Ideal S5120x6912 .fp8e4m3) (s : Vec Ideal S1x6912 .f32)
    (i : S24576x5120.Idx) :
    out0_5 (F := Ideal) x w s i = rowCodes (xRow x (i 0)) (i 1) := by
  have hc : out0_5 (F := Ideal) x w s = k0_pay4 (F := Ideal) x := by
    unfold out0_5
    rw [View.canon_cons_unit_lit _ _ _ (by decide), View.ld_unit_lit _ _ (by decide)]
  rw [hc, pay4_apply]
  rfl

/-- The reference's fourth result: the scale of each row of `x`. -/
theorem out6_apply (x : Vec Ideal S24576x5120 .bf16) (w : Vec Ideal S5120x6912 .fp8e4m3) (s : Vec Ideal S1x6912 .f32)
    (i : S24576x1.Idx) :
    out0_6 (F := Ideal) x w s i = rowScale (xRow x (i 0)) := by
  have hc : out0_6 (F := Ideal) x w s = k0_pay3 (F := Ideal) x := by
    unfold out0_6
    rw [View.canon_cons_unit_lit _ _ _ (by decide), View.ld_unit_lit _ _ (by decide)]
  rw [hc, pay3_apply]
  rfl

end Cert.Proof.Ref

end
-- ==== Proof.RefArray.lean ====
/- The reference's four result arrays after the run: its one block is the whole of every array, so each result is what the
   body leaves, read row by row. -/
module

public import proofs.«01_k».proof.Proof.RefRows
public import proofs.«01_k».proof.Proof.Results
public import proofs.«01_k».proof.Proof.Gen.ReferenceIdeal.Frame
public import Idealize.ShloMosaic.Lib.Pipeline.ValueKit
public import Idealize.ShloMosaic.Lib.Claim

@[expose] public section

set_option maxRecDepth 65536

noncomputable section

namespace Cert.Proof.Ref

open Idealize.ShloMosaic Idealize.ShloMosaic.TcCoe Idealize.SL.Sem
open Cert.ReferenceIdeal Cert.ReferenceIdeal.Gen
open Idealize.ShloMosaic.Pipeline (Dat)

variable (m : (ℓ : Loc nD τ sig) → Buf (Elt Ideal) ℓ) (ρ : Dev nD → PrngReg) (c : Dev nD)

/-- The activations as the region finds them: one row per token. -/
abbrev xs : Vec Ideal S24576x5120 .bf16 := V m c main_v0
/-- The weights as the region finds them. -/
abbrev wt : Vec Ideal S5120x6912 .fp8e4m3 := V m c main_arg1
/-- The weights' scales as the region finds them: one row. -/
abbrev sc : Vec Ideal S1x6912 .f32 := V m c main_v1

theorem index0 : ∀ (t : Fin cfg0.N) (a : Fin 2), win0_0.index t a = 0 := fun _ _ => rfl
theorem index1 : ∀ (t : Fin cfg0.N) (a : Fin 2), win0_1.index t a = 0 := fun _ _ => rfl
theorem index2 : ∀ (t : Fin cfg0.N) (a : Fin 2), win0_2.index t a = 0 := fun _ _ => rfl
theorem index3 : ∀ (t : Fin cfg0.N) (a : Fin 2), win0_3.index t a = 0 := fun _ _ => rfl
theorem index4 : ∀ (t : Fin cfg0.N) (a : Fin 2), win0_4.index t a = 0 := fun _ _ => rfl
theorem index5 : ∀ (t : Fin cfg0.N) (a : Fin 2), win0_5.index t a = 0 := fun _ _ => rfl
theorem index6 : ∀ (t : Fin cfg0.N) (a : Fin 2), win0_6.index t a = 0 := fun _ _ => rfl

/-- The block of activations is the activations. -/
theorem iblk0_eq (t : Fin cfg0.N) : (iblk m c 0 t : Vec Ideal S24576x5120 .bf16) = xs m c := by
  funext y
  unfold iblk
  rw [View.read_apply]
  show V m c main_v0 _ = V m c main_v0 _
  congr 1
  funext a
  apply Fin.ext
  match a with
  | ⟨0, _⟩ => show win0_0.index t 0 * 24576 + 1 * (y 0).val = (y 0).val; rw [index0]; omega
  | ⟨1, _⟩ => show win0_0.index t 1 * 5120 + 1 * (y 1).val = (y 1).val; rw [index0]; omega

/-- The block of weights is the weights. -/
theorem iblk1_eq (t : Fin cfg0.N) : (iblk m c 1 t : Vec Ideal S5120x6912 .fp8e4m3) = wt m c := by
  funext y
  unfold iblk
  rw [View.read_apply]
  show V m c main_arg1 _ = V m c main_arg1 _
  congr 1
  funext a
  apply Fin.ext
  match a with
  | ⟨0, _⟩ => show win0_1.index t 0 * 5120 + 1 * (y 0).val = (y 0).val; rw [index1]; omega
  | ⟨1, _⟩ => show win0_1.index t 1 * 6912 + 1 * (y 1).val = (y 1).val; rw [index1]; omega

/-- The block of scales is the scales. -/
theorem iblk2_eq (t : Fin cfg0.N) : (iblk m c 2 t : Vec Ideal S1x6912 .f32) = sc m c := by
  funext y
  unfold iblk
  rw [View.read_apply]
  show V m c main_v1 _ = V m c main_v1 _
  congr 1
  funext a
  apply Fin.ext
  match a with
  | ⟨0, _⟩ => show win0_2.index t 0 * 1 + 1 * (y 0).val = (y 0).val; rw [index2]; omega
  | ⟨1, _⟩ => show win0_2.index t 1 * 6912 + 1 * (y 1).val = (y 1).val; rw [index2]; omega

/-- The first result array after the run. -/
theorem final3 : (dats m 0 c).arrAt 3 cfg0.N = hScales (xs m c) (wt m c) (sc m c) := by
  refine (dats m 0 c).arrAt_eq_of_covers 3 _ (by decide +kernel) fun t hf y => ?_
  have e : (dats m 0 c).after 3 t = (hScales (xs m c) (wt m c) (sc m c) : S24576x1.Idx → EReal) := by
    rw [after0_3, iblk0_eq, iblk1_eq, iblk2_eq]
    funext i
    exact out3_apply ..
  refine Eq.trans (congrFun e y) (congrArg (hScales (xs m c) (wt m c) (sc m c)) (funext fun a => Fin.ext ?_))
  match a with
  | ⟨0, _⟩ => show (y 0).val = win0_3.index t 0 * 24576 + 1 * (y 0).val; rw [index3]; omega
  | ⟨1, _⟩ => show (y 1).val = win0_3.index t 1 * 1 + 1 * (y 1).val; rw [index3]; omega

/-- The second result array after the run. -/
theorem final4 : (dats m 0 c).arrAt 4 cfg0.N = hCodes (xs m c) (wt m c) (sc m c) := by
  refine (dats m 0 c).arrAt_eq_of_covers 4 _ (by decide +kernel) fun t hf y => ?_
  have e : (dats m 0 c).after 4 t = (hCodes (xs m c) (wt m c) (sc m c) : S24576x3456.Idx → EReal) := by
    rw [after0_4, iblk0_eq, iblk1_eq, iblk2_eq]
    funext i
    exact out4_apply ..
  refine Eq.trans (congrFun e y) (congrArg (hCodes (xs m c) (wt m c) (sc m c)) (funext fun a => Fin.ext ?_))
  match a with
  | ⟨0, _⟩ => show (y 0).val = win0_4.index t 0 * 24576 + 1 * (y 0).val; rw [index4]; omega
  | ⟨1, _⟩ => show (y 1).val = win0_4.index t 1 * 3456 + 1 * (y 1).val; rw [index4]; omega

/-- The third result array after the run. -/
theorem final5 : (dats m 0 c).arrAt 5 cfg0.N = xCodes (xs m c) := by
  refine (dats m 0 c).arrAt_eq_of_covers 5 _ (by decide +kernel) fun t hf y => ?_
  have e : (dats m 0 c).after 5 t = (xCodes (xs m c) : S24576x5120.Idx → EReal) := by
    rw [after0_5, iblk0_eq, iblk1_eq, iblk2_eq]
    funext i
    exact out5_apply ..
  refine Eq.trans (congrFun e y) (congrArg (xCodes (xs m c)) (funext fun a => Fin.ext ?_))
  match a with
  | ⟨0, _⟩ => show (y 0).val = win0_5.index t 0 * 24576 + 1 * (y 0).val; rw [index5]; omega
  | ⟨1, _⟩ => show (y 1).val = win0_5.index t 1 * 5120 + 1 * (y 1).val; rw [index5]; omega

/-- The fourth result array after the run. -/
theorem final6 : (dats m 0 c).arrAt 6 cfg0.N = xScales (xs m c) := by
  refine (dats m 0 c).arrAt_eq_of_covers 6 _ (by decide +kernel) fun t hf y => ?_
  have e : (dats m 0 c).after 6 t = (xScales (xs m c) : S24576x1.Idx → EReal) := by
    rw [after0_6, iblk0_eq, iblk1_eq, iblk2_eq]
    funext i
    exact out6_apply ..
  refine Eq.trans (congrFun e y) (congrArg (xScales (xs m c)) (funext fun a => Fin.ext ?_))
  match a with
  | ⟨0, _⟩ => show (y 0).val = win0_6.index t 0 * 24576 + 1 * (y 0).val; rw [index6]; omega
  | ⟨1, _⟩ => show (y 1).val = win0_6.index t 1 * 1 + 1 * (y 1).val; rw [index6]; omega

/-- The region finds the activations' argument re-read as one row per token. -/
theorem xs_eq : xs m c = shapeCast S24576x5120 (m ((c : Thread nD τ).loc main_arg0) : Vec Ideal S8x3072x5120 .bf16)
    shapeCasts_S8x3072x5120_S24576x5120 := by
  unfold xs
  entry_read
  rfl

/-- The region finds the weights' argument as launched. -/
theorem wt_eq : wt m c = m ((c : Thread nD τ).loc main_arg1) := V_main_arg1 m c

/-- The region finds the scales' argument re-read as one row. -/
theorem sc_eq : sc m c = shapeCast S1x6912 (m ((c : Thread nD τ).loc main_arg2) : Vec Ideal S6912 .f32)
    shapeCasts_S6912_S1x6912 := by
  unfold sc
  entry_read
  rfl

/-- The run, read: the four results and the unchanged arguments. -/
theorem run : θ_run defs (onTc (τ := τ) (main (F := Ideal))) ⟨m, fun _ => 0, ρ⟩ fun r => ∀ c : Dev nD,
      r.2.mem ((c : Thread nD τ).loc main_v2_0) = hScales (xs m c) (wt m c) (sc m c)
      ∧ r.2.mem ((c : Thread nD τ).loc main_v2_1) = hCodes (xs m c) (wt m c) (sc m c)
      ∧ r.2.mem ((c : Thread nD τ).loc main_v2_2) = xCodes (xs m c)
      ∧ r.2.mem ((c : Thread nD τ).loc main_v2_3) = xScales (xs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final3 m c), ((h c).1 4).trans (final4 m c),
      ((h c).1 5).trans (final5 m c), ((h c).1 6).trans (final6 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.Proof.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelArray
public import proofs.«01_k».proof.Proof.RefArray
public import Idealize.ShloMosaic.Adequacy
public import Idealize.ShloMosaic.Init

@[expose] public section

set_option maxRecDepth 65536

noncomputable section

namespace Cert.Proof

open Idealize.ShloMosaic Idealize.ShloMosaic.TcCoe Idealize.SL.Sem

/-- From memories agreeing on the activations, the two regions find the same rows. -/
theorem xs_agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : m' ((c.tc : Thread ReferenceIdeal.nD ReferenceIdeal.τ).loc ReferenceIdeal.main_arg0)
      = m ((c.tc : Thread KernelIdeal.nD KernelIdeal.τ).loc KernelIdeal.main_arg0)) :
    Ref.xs m' c = Kern.xs m c := by
  rw [Ref.xs_eq, Kern.xs_eq]
  exact congrArg (fun v : Vec Ideal KernelIdeal.S8x3072x5120 .bf16 =>
    shapeCast KernelIdeal.S24576x5120 v KernelIdeal.Gen.shapeCasts_S8x3072x5120_S24576x5120) h

/-- From memories agreeing on the weights' scales, the two regions find the same row of them. -/
theorem sc_agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : m' ((c.tc : Thread ReferenceIdeal.nD ReferenceIdeal.τ).loc ReferenceIdeal.main_arg2)
      = m ((c.tc : Thread KernelIdeal.nD KernelIdeal.τ).loc KernelIdeal.main_arg2)) :
    Ref.sc m' c = Kern.sc m c := by
  rw [Ref.sc_eq, Kern.sc_eq]
  exact congrArg (fun v : Vec Ideal KernelIdeal.S6912 .f32 =>
    shapeCast KernelIdeal.S1x6912 v KernelIdeal.Gen.shapeCasts_S6912_S1x6912) h

/-- Over the extended reals the kernel and the reference leave the same four results: each result is one function of the
    arguments (`Results`), which the two memories agree on. -/
theorem algebraic : Cert.algebraic_KernelIdeal_ReferenceIdeal := by
  intro m ρ m' ρ' _ hag
  refine ⟨fun c => hScales (Kern.xs m c) (Kern.wt m c) (Kern.sc m c), fun c => hCodes (Kern.xs m c) (Kern.wt m c) (Kern.sc m c),
    fun c => xCodes (Kern.xs m c), fun c => xScales (Kern.xs m c), Kern.run m ρ, ?_⟩
  have ex c : Ref.xs m' c = Kern.xs m c := xs_agree m m' c (hag c).1
  have ew c : Ref.wt m' c = Kern.wt m c := (Ref.wt_eq m' c).trans ((hag c).2.1.trans (Kern.wt_eq m c).symm)
  have es c : Ref.sc m' c = Kern.sc m c := sc_agree m m' c (hag c).2.2
  refine (θ_run ReferenceIdeal.defs _ _).mono (fun r h c => ?_) (Ref.run m' ρ')
  obtain ⟨h0, h1, h2, h3, hargs⟩ := h c
  rw [ex, ew, es] at h0 h1
  rw [ex] at h2 h3
  exact ⟨h0, h1, h2, h3, hargs⟩

/-- Everything claimed. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end
